-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg" .f32 0xFF61B1E6#32 ⊥

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S32x32x32768 : Shape := ⟨3, ![32, 32, 32768]⟩
abbrev S32x32 : Shape := ⟨2, ![32, 32]⟩
abbrev S_ : Shape := ⟨0, ![]⟩

class Facts : Prop where
  bcast_S_S32x32 : S_.BroadcastsInDim S32x32 (![] : Fin 0 → Fin S32x32.rank)
  reducesTo_S32x32_S_d0_1 : S32x32.ReducesTo [0, 1] S_
  h_S_ : 0 < S_.numel
  bcast_S_S32x32x32768 : S_.BroadcastsInDim S32x32x32768 (![] : Fin 0 → Fin S32x32x32768.rank)
  reducesTo_S32x32x32768_S_d0_1_2 : S32x32x32768.ReducesTo [0, 1, 2] S_

variable [Facts]

def fn {F : FTy → Type} [FloatOps F] (main_arg0 : FVec F S32x32x32768 .f32) (main_arg1 : IVec S32x32 32) : IVec S_ 1 :=
  let main_c : IVec S_ 32 := constantI S_ 32 0#32
  let main_v0 : IVec S32x32 32 := broadcastInDim S32x32 ![] bcast_S_S32x32 main_c
  let main_v1 : IVec S32x32 1 := cmpi .sge main_arg1 main_v0
  let main_c_0 : IVec S_ 1 := constantI S_ 1 1#1
  let main_v2 : IVec S_ 1 := (fun x v => Host.reduce IntOp.andi x v reducesTo_S32x32_S_d0_1 h_S_) main_v1 main_c_0
  let main_c_1 : IVec S_ 32 := constantI S_ 32 32768#32
  let main_v3 : IVec S32x32 32 := broadcastInDim S32x32 ![] bcast_S_S32x32 main_c_1
  let main_v4 : IVec S32x32 1 := cmpi .slt main_arg1 main_v3
  let main_c_2 : IVec S_ 1 := constantI S_ 1 1#1
  let main_v5 : IVec S_ 1 := (fun x v => Host.reduce IntOp.andi x v reducesTo_S32x32_S_d0_1 h_S_) main_v4 main_c_2
  let main_v6 : IVec S_ 1 := andi main_v2 main_v5
  let main_v7 : FVec F S32x32x32768 .f32 := Host.absf main_arg0
  let main_cst : FVec F S_ .f32 := constant S_ .f32 0x7F800000#32
  let main_v8 : FVec F S32x32x32768 .f32 := broadcastInDim S32x32x32768 ![] bcast_S_S32x32x32768 main_cst
  let main_v9 : IVec S32x32x32768 1 := cmpf .olt main_v7 main_v8
  let main_c_3 : IVec S_ 1 := constantI S_ 1 1#1
  let main_v10 : IVec S_ 1 := (fun x v => Host.reduce IntOp.andi x v reducesTo_S32x32x32768_S_d0_1_2 h_S_) main_v9 main_c_3
  let main_v11 : IVec S_ 1 := andi main_v6 main_v10
  main_v11
-- ==== Kernel.lean ====
abbrev S32x32x32768 : Shape := ⟨3, ![32, 32, 32768]⟩
abbrev S32x32 : Shape := ⟨2, ![32, 32]⟩
abbrev S32x1x32 : Shape := ⟨3, ![32, 1, 32]⟩
abbrev S1x1 : Shape := ⟨2, ![1, 1]⟩
abbrev S_ : Shape := ⟨0, ![]⟩
abbrev S1x32x32768 : Shape := ⟨3, ![1, 32, 32768]⟩
abbrev S1x1x32 : Shape := ⟨3, ![1, 1, 32]⟩
abbrev S32x32768 : Shape := ⟨2, ![32, 32768]⟩
abbrev S32 : Shape := ⟨1, ![32]⟩
abbrev S32x1 : Shape := ⟨2, ![32, 1]⟩
abbrev S1x32 : Shape := ⟨2, ![1, 32]⟩
abbrev S1 : Shape := ⟨1, ![1]⟩

abbrev nBuf : Space → Nat
  | .hbm => 5
  | .vmem => 5
  | .smem => 0
  | _ => 0

abbrev bufTy : (tb : Table) → Fin (tcTables nBuf tb) → BufTy
  | .hbm, ⟨0, _⟩ => ⟨S32x32x32768, .f32⟩
  | .hbm, ⟨1, _⟩ => ⟨S32x32, .i32⟩
  | .hbm, ⟨2, _⟩ => ⟨S32x1x32, .i32⟩
  | .hbm, ⟨3, _⟩ => ⟨S1x1, .f32⟩
  | .hbm, ⟨4, _⟩ => ⟨S_, .f32⟩
  | .local _ .vmem, ⟨0, _⟩ => ⟨S1x32x32768, .f32⟩
  | .local _ .vmem, ⟨1, _⟩ => ⟨S1x32x32768, .f32⟩
  | .local _ .vmem, ⟨2, _⟩ => ⟨S1x1x32, .i32⟩
  | .local _ .vmem, ⟨3, _⟩ => ⟨S1x1x32, .i32⟩
  | .local _ .vmem, ⟨4, _⟩ => ⟨S1x1, .f32⟩
  | _, _ => ⟨S32x32x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_21 : BitVec 32 := 0#32
  let v52 : BitVec 1 := Scalar.cmpi .eq arg0 c0_i32_21
  let v53 : BitVec 32 := Scalar.extui v52
  let c0_i32_22 : BitVec 32 := 0#32
  let v54 : BitVec 1 := Scalar.cmpi .ne v53 c0_i32_22
  v54

def k0_cond2 (i : grid0.Coords) : BitVec 1 :=
  let arg0 : BitVec 32 := BitVec.ofNat 32 (i 0).val
  let c0_i32_23 : BitVec 32 := 0#32
  let v55 : BitVec 1 := Scalar.cmpi .sgt arg0 c0_i32_23
  let v56 : BitVec 32 := Scalar.extui v55
  let c0_i32_24 : BitVec 32 := 0#32
  let v57 : BitVec 1 := Scalar.cmpi .ne v56 c0_i32_24
  v57

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "neg" => some ⊥
  | _ => none
-- ==== ReferenceIdeal.lean ====
abbrev S32x32x32768 : Shape := ⟨3, ![32, 32, 32768]⟩
abbrev S32x32 : Shape := ⟨2, ![32, 32]⟩
abbrev S1024x32768 : Shape := ⟨2, ![1024, 32768]⟩
abbrev S1024 : Shape := ⟨1, ![1024]⟩
abbrev S_ : Shape := ⟨0, ![]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1024x2 : Shape := ⟨2, ![1024, 2]⟩
abbrev S32 : Shape := ⟨1, ![32]⟩

abbrev nBuf : Space → Nat
  | .hbm => 101
  | .vmem => 0
  | .smem => 0
  | _ => 0

abbrev bufTy : (tb : Table) → Fin (tcTables nBuf tb) → BufTy
  | .hbm, ⟨0, _⟩ => ⟨S32x32x32768, .f32⟩
  | .hbm, ⟨1, _⟩ => ⟨S32x32, .i32⟩
  | .hbm, ⟨2, _⟩ => ⟨S1024x32768, .f32⟩
  | .hbm, ⟨3, _⟩ => ⟨S1024, .i32⟩
  | .hbm, ⟨4, _⟩ => ⟨S_, .f32⟩
  | .hbm, ⟨5, _⟩ => ⟨S_, .f32⟩
  | .hbm, ⟨6, _⟩ => ⟨S1024x32768, .f32⟩
  | .hbm, ⟨7, _⟩ => ⟨S1024x32768, .f32⟩
  | .hbm, ⟨8, _⟩ => ⟨S1024x1, .i32⟩
  | .hbm, ⟨9, _⟩ => ⟨S_, .i32⟩
  | .hbm, ⟨10, _⟩ => ⟨S1024x1, .i32⟩
  | .hbm, ⟨11, _⟩ => ⟨S1024x1, .i1⟩
  | .hbm, ⟨12, _⟩ => ⟨S_, .i32⟩
  | .hbm, ⟨13, _⟩ => ⟨S1024x1, .i32⟩
  | .hbm, ⟨14, _⟩ => ⟨S1024x1, .i32⟩
  | .hbm, ⟨15, _⟩ => ⟨S1024x1, .i32⟩
  | .hbm, ⟨16, _⟩ => ⟨S1024x1x1, .i32⟩
  | .hbm, ⟨17, _⟩ => ⟨S1, .i32⟩
  | .hbm, ⟨18, _⟩ => ⟨S_, .i32⟩
  | .hbm, ⟨19, _⟩ => ⟨S1024x1x1, .i32⟩
  | .hbm, ⟨20, _⟩ => ⟨S1024x1x1, .i1⟩
  | .hbm, ⟨21, _⟩ => ⟨S1x1x1, .i32⟩
  | .hbm, ⟨22, _⟩ => ⟨S1024x1x1, .i32⟩
  | .hbm, ⟨23, _⟩ => ⟨S1024x1x1, .i1⟩
  | .hbm, ⟨24, _⟩ => ⟨S1024x1x1, .i1⟩
  | .hbm, ⟨25, _⟩ => ⟨S_, .i1⟩
  | .hbm, ⟨26, _⟩ => ⟨S1024x1, .i1⟩
  | .hbm, ⟨27, _⟩ => ⟨S1024x1, .f32⟩
  | .hbm, ⟨28, _⟩ => ⟨S_, .f32⟩
  | .hbm, ⟨29, _⟩ => ⟨S1024x1, .f32⟩
  | .hbm, ⟨30, _⟩ => ⟨S1024x1, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024x32768, .i32⟩
  | .hbm, ⟨35, _⟩ => ⟨S_, .f32⟩
  | .hbm, ⟨36, _⟩ => ⟨S_, .i32⟩
  | .hbm, ⟨37, _⟩ => ⟨S1024, .f32⟩
  | .hbm, ⟨38, _⟩ => ⟨S1024, .i32⟩
  | .hbm, ⟨39, _⟩ => ⟨S1024, .i32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1024x1, .i32⟩
  | .hbm, ⟨55, _⟩ => ⟨S1024x1, .i32⟩
  | .hbm, ⟨56, _⟩ => ⟨S1024x2, .i32⟩
  | .hbm, ⟨57, _⟩ => ⟨S_, .f32⟩
  | .hbm, ⟨58, _⟩ => ⟨S1024, .f32⟩
  | .hbm, ⟨59, _⟩ => ⟨S1024x32768, .f32⟩
  | .hbm, ⟨60, _⟩ => ⟨S_, .f32⟩
  | .hbm, ⟨61, _⟩ => ⟨S1024, .f32⟩
  | .hbm, ⟨62, _⟩ => ⟨S1024x32768, .i32⟩
  | .hbm, ⟨63, _⟩ => ⟨S_, .f32⟩
  | .hbm, ⟨64, _⟩ => ⟨S_, .i32⟩
  | .hbm, ⟨65, _⟩ => ⟨S1024, .f32⟩
  | .hbm, ⟨66, _⟩ => ⟨S1024, .i32⟩
  | .hbm, ⟨67, _⟩ => ⟨S1024, .i1⟩
  | .hbm, ⟨68, _⟩ => ⟨S1024, .i32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S_, .f32⟩
  | .hbm, ⟨75, _⟩ => ⟨S1024, .f32⟩
  | .hbm, ⟨76, _⟩ => ⟨S1024, .f32⟩
  | .hbm, ⟨77, _⟩ => ⟨S1024, .i1⟩
  | .hbm, ⟨78, _⟩ => ⟨S1024, .f32⟩
  | .hbm, ⟨79, _⟩ => ⟨S1024, .f32⟩
  | .hbm, ⟨80, _⟩ => ⟨S_, .i32⟩
  | .hbm, ⟨81, _⟩ => ⟨S1024, .i32⟩
  | .hbm, ⟨82, _⟩ => ⟨S1024, .i1⟩
  | .hbm, ⟨83, _⟩ => ⟨S1024, .f32⟩
  | .hbm, ⟨84, _⟩ => ⟨S1024, .f32⟩
  | .hbm, ⟨85, _⟩ => ⟨S32x32, .f32⟩
  | .hbm, ⟨86, _⟩ => ⟨S32x32, .i1⟩
  | .hbm, ⟨87, _⟩ => ⟨S32x32, .i32⟩
  | .hbm, ⟨88, _⟩ => ⟨S_, .i32⟩
  | .hbm, ⟨89, _⟩ => ⟨S32, .i32⟩
  | .hbm, ⟨90, _⟩ => ⟨S_, .i32⟩
  | .hbm, ⟨91, _⟩ => ⟨S32, .i32⟩
  | .hbm, ⟨92, _⟩ => ⟨S32, .i1⟩
  | .hbm, ⟨93, _⟩ => ⟨S_, .f32⟩
  | .hbm, ⟨94, _⟩ => ⟨S32, .f32⟩
  | .hbm, ⟨95, _⟩ => ⟨S32, .f32⟩
  | .hbm, ⟨96, _⟩ => ⟨S32, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S32x32x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_call1_v0 : Ref sig .tc := ⟨.hbm, 34, rfl⟩
abbrev main_call1_cst : Ref sig .tc := ⟨.hbm, 35, rfl⟩
abbrev main_call1_c : Ref sig .tc := ⟨.hbm, 36, rfl⟩
abbrev main_call1_v1_0 : Ref sig .tc := ⟨.hbm, 37, rfl⟩
abbrev main_v9 : Ref sig .tc := ⟨.hbm, 38, rfl⟩
abbrev main_v10 : Ref sig .tc := ⟨.hbm, 39, rfl⟩
abbrev main_c : Ref sig .tc := ⟨.hbm, 40, rfl⟩
abbrev main_v11 : Ref sig .tc := ⟨.hbm, 41, rfl⟩
abbrev main_v12 : Ref sig .tc := ⟨.hbm, 42, rfl⟩
abbrev main_c_1 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_c_2 : Ref sig .tc := ⟨.hbm, 47, rfl⟩
abbrev main_v16 : Ref sig .tc := ⟨.hbm, 48, rfl⟩
abbrev main_v17 : Ref sig .tc := ⟨.hbm, 49, rfl⟩
abbrev main_c_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_call2_v0 : Ref sig .tc := ⟨.hbm, 62, rfl⟩
abbrev main_call2_cst : Ref sig .tc := ⟨.hbm, 63, rfl⟩
abbrev main_call2_c : Ref sig .tc := ⟨.hbm, 64, rfl⟩
abbrev main_call2_v1_0 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_6 : Ref sig .tc := ⟨.hbm, 71, rfl⟩
abbrev main_v32 : Ref sig .tc := ⟨.hbm, 72, rfl⟩
abbrev main_v33 : Ref sig .tc := ⟨.hbm, 73, rfl⟩
abbrev main_cst_7 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_c_8 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_9 : Ref sig .tc := ⟨.hbm, 88, rfl⟩
abbrev main_v46 : Ref sig .tc := ⟨.hbm, 89, rfl⟩
abbrev main_c_10 : Ref sig .tc := ⟨.hbm, 90, rfl⟩
abbrev main_v47 : Ref sig .tc := ⟨.hbm, 91, rfl⟩
abbrev main_v48 : Ref sig .tc := ⟨.hbm, 92, rfl⟩
abbrev main_cst_11 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_12 : Ref sig .tc := ⟨.hbm, 97, rfl⟩
abbrev main_v52 : Ref sig .tc := ⟨.hbm, 98, rfl⟩
abbrev main_cst_13 : Ref sig .tc := ⟨.hbm, 99, rfl⟩
abbrev main_v53 : Ref sig .tc := ⟨.hbm, 100, rfl⟩

abbrev nD : Nat := 1
abbrev τ : Topo := Topo.v7x

variable {F : FTy → Type} [FloatOps F]
-- ==== Proof.Loss.Run.lean ====
/-
  What the reference program computes, as one function of its two argument arrays (`refOut`), operation by operation as
  it is printed, and its run: it ends with `refOut` of the arguments in its result buffer, the arguments unchanged.
-/
module

public import proofs.«01_k».proof.Defs
public import proofs.«01_k».proof.Proof.Gen.ReferenceIdeal
public import Idealize.ShloMosaic.Adequacy
public import Idealize.ShloMosaic.Init
public import Idealize.ShloMosaic.Lib.Claim
public import Idealize.ShloMosaic.Lib.StableHlo.RunRead

@[expose] public section

noncomputable section

namespace Cert.ReferenceIdeal.Loss

open Idealize.ShloMosaic Idealize.SL.Sem Cert.ReferenceIdeal Cert.ReferenceIdeal.Gen

/-- The scores less the least score of the whole array, a row per example. -/
def scores (x : FVec Ideal S32x32x32768 .f32) : FVec Ideal S1024x32768 .f32 :=
  subf (shapeCast S1024x32768 x shapeCasts_S32x32x32768_S1024x32768)
    (broadcastInDim S1024x32768 ![] bcast_S_S1024x32768
      (Host.reduce FloatOps.minimumf (shapeCast S1024x32768 x shapeCasts_S32x32x32768_S1024x32768)
        (constant (F := Ideal) S_ .f32 0x7F800000#32) reducesTo_S1024x32768_S_d0_1 h_S_))

/-- The labels, one per example. -/
def labels (y : IVec S32x32 32) : IVec S1024 32 := shapeCast S1024 y shapeCasts_S32x32_S1024

/-- A label as an index of its row: a negative one counts from the row's end. -/
def goldIdx (y : IVec S32x32 32) : IVec S1024x1 32 :=
  select (cmpi .slt (broadcastInDim S1024x1 ![0] bcast_S1024_S1024x1_0 (labels y)) (broadcastInDim S1024x1 ![] bcast_S_S1024x1 (constantI S_ 32 0#32)))
    (addi (broadcastInDim S1024x1 ![0] bcast_S1024_S1024x1_0 (labels y)) (broadcastInDim S1024x1 ![] bcast_S_S1024x1 (constantI S_ 32 32768#32)))
    (broadcastInDim S1024x1 ![0] bcast_S1024_S1024x1_0 (labels y))

/-- The same, as the gather takes it. -/
def goldIdx3 (y : IVec S32x32 32) : IVec S1024x1x1 32 := shapeCast S1024x1x1 (goldIdx y) shapeCasts_S1024x1_S1024x1x1

/-- Which of those indices name an entry of their row. -/
def goldOk (y : IVec S32x32 32) : IVec S1024x1 1 :=
  Host.reduce IntOp.andi
    (andi (cmpi .sge (goldIdx3 y) (broadcastInDim S1024x1x1 ![] bcast_S_S1024x1x1 (constantI S_ 32 0#32)))
      (cmpi .sle (goldIdx3 y) (broadcastInDim S1024x1x1 ![0, 1, 2] bcast_S1x1x1_S1024x1x1_0_1_2
        (broadcastInDim S1x1x1 ![2] bcast_S1_S1x1x1_2 (constantI S1 32 32767#32)))))
    (constantI S_ 1 1#1) reducesTo_S1024x1x1_S1024x1_d2 h_S_

/-- The score at each example's label (a NaN's reading where the index names no entry). -/
def goldScores (x : FVec Ideal S32x32x32768 .f32) (y : IVec S32x32 32) : FVec Ideal S1024 .f32 :=
  shapeCast S1024
    (select (goldOk y) (Host.gather gather_S1024x32768_S1024x1x1_S1024x1_n_1_0_0_1_2_11 (scores x) (goldIdx3 y))
      (broadcastInDim S1024x1 ![] bcast_S_S1024x1 (constant (F := Ideal) S_ .f32 0x7FC00000#32)))
    shapeCasts_S1024x1_S1024

/-- Each row's maximum. -/
def rowMax (s : FVec Ideal S1024x32768 .f32) : FVec Ideal S1024 .f32 :=
  Host.reduce FloatOps.maximumf s (constant (F := Ideal) S_ .f32 0xFF800000#32) reducesTo_S1024x32768_S1024_d1 h_S_

/-- Each row's first index of its maximum. -/
def rowArgmax (s : FVec Ideal S1024x32768 .f32) : IVec S1024 32 := fun j =>
  (Host.argReduce reducer_argmax_f32_i32 s (iotaInDim S1024x32768 32 1) (constant (F := Ideal) S_ .f32 0xFF800000#32)
    (constantI S_ 32 0#32) reducesTo_S1024x32768_S1024_d1 h_S_ j).2

/-- The example numbers, as the scatter's row indices. -/
def rowIdx : IVec S1024 32 :=
  select (cmpi .slt (iotaInDim S1024 32 0) (broadcastInDim S1024 ![] bcast_S_S1024 (constantI S_ 32 0#32)))
    (addi (iotaInDim S1024 32 0) (broadcastInDim S1024 ![] bcast_S_S1024 (constantI S_ 32 1024#32)))
    (iotaInDim S1024 32 0)

/-- The indices of the best scores, as the scatter's column indices. -/
def colIdx (x : FVec Ideal S32x32x32768 .f32) : IVec S1024 32 :=
  select (cmpi .slt (rowArgmax (scores x)) (broadcastInDim S1024 ![] bcast_S_S1024 (constantI S_ 32 0#32)))
    (addi (rowArgmax (scores x)) (broadcastInDim S1024 ![] bcast_S_S1024 (constantI S_ 32 32768#32)))
    (rowArgmax (scores x))

/-- Two columns of words side by side: a table of index pairs. -/
def pairs (a b : IVec S1024x1 32) : IVec S1024x2 32 :=
  concatenate S1024x2 1 [⟨S1024x1, a⟩, ⟨S1024x1, b⟩] concatenates_S1024x1_S1024x1_S1024x2_d1

/-- The printed concatenation is that table. -/
theorem concatenate_eq_pairs (a b : IVec S1024x1 32) (h : Shape.Concatenates [S1024x1, S1024x1] S1024x2 1) :
    concatenate S1024x2 1 [⟨S1024x1, a⟩, ⟨S1024x1, b⟩] h = pairs a b := rfl

/-- The scores with each row's best one replaced by zero. -/
def secondScores (x : FVec Ideal S32x32x32768 .f32) : FVec Ideal S1024x32768 .f32 :=
  Host.scatter scatter_S1024x32768_S1024x2_S1024_n_01_01_1 (fun _ b => b) (scores x)
    (pairs (broadcastInDim S1024x1 ![0] bcast_S1024_S1024x1_0 rowIdx) (broadcastInDim S1024x1 ![0] bcast_S1024_S1024x1_0 (colIdx x)))
    (broadcastInDim S1024 ![] bcast_S_S1024 (constant (F := Ideal) S_ .f32 0x00000000#32))

/-- Which labels are counted: those that are not zero. -/
def ignoreMask (lab : IVec S1024 32) : IVec S1024 1 :=
  cmpi .ne lab (broadcastInDim S1024 ![] bcast_S_S1024 (constantI S_ 32 0#32))

/-- The loss of each example, from the labels, the scores at the labels, each row's maximum and its place, and the
    scores with the best replaced: the negative example is the best, or the second best where the best is the label's. -/
def lossOf (lab : IVec S1024 32) (gold best : FVec Ideal S1024 .f32) (bestIdx : IVec S1024 32)
    (second : FVec Ideal S1024x32768 .f32) : FVec Ideal S1024 .f32 :=
  mulf
    (mulf (uitofp .f32 (cmpi .ne (select (cmpi .eq bestIdx lab) (rowArgmax second) bestIdx) lab))
      (maximumf
        (addf (broadcastInDim S1024 ![] bcast_S_S1024 (constant (F := Ideal) S_ .f32 0x3F800000#32))
          (subf (select (cmpi .eq bestIdx lab) (rowMax second) best) gold))
        (broadcastInDim S1024 ![] bcast_S_S1024 (constant (F := Ideal) S_ .f32 0x00000000#32))))
    (uitofp .f32 (ignoreMask lab))

/-- Which sequences have a counted label. -/
def outMask (lab : IVec S1024 32) : IVec S32 1 :=
  cmpi .sgt
    (Host.reduce IntOp.addi (extui 32 (shapeCast S32x32 (ignoreMask lab) shapeCasts_S1024_S32x32) natLt_1_32)
      (constantI S_ 32 0#32) reducesTo_S32x32_S32_d1 h_S_)
    (broadcastInDim S32 ![] bcast_S_S32 (constantI S_ 32 0#32))

/-- The mean over the sequences of the masked sums of their examples' losses. -/
def meanOf (lab : IVec S1024 32) (l : FVec Ideal S1024 .f32) : FVec Ideal S_ .f32 :=
  Host.divf
    (Host.reduceAdd
      (mulf
        (Host.reduceAdd (shapeCast S32x32 l shapeCasts_S1024_S32x32) (constant (F := Ideal) S_ .f32 0x00000000#32)
          reducesTo_S32x32_S32_d1 h_S_)
        (uitofp .f32 (outMask lab)))
      (constant (F := Ideal) S_ .f32 0x00000000#32) reducesTo_S32_S_d0 h_S_)
    (constant (F := Ideal) S_ .f32 0x42000000#32)

/-- The reference's result. -/
def refOut (x : FVec Ideal S32x32x32768 .f32) (y : IVec S32x32 32) : FVec Ideal S_ .f32 :=
  meanOf (labels y) (lossOf (labels y) (goldScores x y) (rowMax (scores x)) (rowArgmax (scores x)) (secondScores x))

/-- A line of operations leaves what its operations from the `n`-th on leave from the contents after the first `n`. -/
theorem after_cut {τ : Topo} {sig : RefSig} {Val : EltTy → Type} (n : ℕ) (L : List (HloOp τ sig Val)) (V : Valuation τ sig Val) :
    StableHlo.after L V = StableHlo.after (L.drop n) (StableHlo.upto L V n) := by
  have key : ∀ (l₁ l₂ : List (HloOp τ sig Val)) (W : Valuation τ sig Val),
      StableHlo.after (l₁ ++ l₂) W = StableHlo.after l₂ (StableHlo.after l₁ W) := by
    intro l₁
    induction l₁ with
    | nil => intro _ _; rfl
    | cons o l ih => intro l₂ W; exact ih l₂ _
  rw [StableHlo.upto, ← key, List.take_append_drop]

set_option maxRecDepth 100000 in
set_option maxHeartbeats 4000000 in
/-- The reference's run: its result buffer ends at `refOut` of the arguments, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v53) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (StableHlo.run_hlo _ _ (by hlo_seq) (by decide) (by decide) (by simp) ?_ m ρ) ?_
  · intro _ h
    repeat (cases h with | head => rfl | tail _ h => ?_)
    exact nomatch h
  · intro r h c
    refine ⟨(h c main_v53).trans ((congrFun (after_cut 58 _ _) _).trans ?_), (h c main_arg0).trans ?_, (h c main_arg1).trans ?_⟩
    · generalize hW : StableHlo.upto _ _ 58 = W
      have w_v1 : W (Proc.devRef .tc main_v1) = labels (m ((c.tc : Thread nD τ).loc main_arg1)) := by
        rw [← hW]
        after_reads_simp
        try simp -implicitDefEqProofs only [StableHlo.TRef.ofBuf, StableHlo.TRef.toBuf, cast_cast, cast_eq]
        rfl
      have w_v7 : W (Proc.devRef .tc main_v7) = goldScores (m ((c.tc : Thread nD τ).loc main_arg0)) (m ((c.tc : Thread nD τ).loc main_arg1)) := by
        rw [← hW]
        after_reads_simp
        try simp -implicitDefEqProofs only [StableHlo.TRef.ofBuf, StableHlo.TRef.toBuf, cast_cast, cast_eq]
        rfl
      have w_v8 : W (Proc.devRef .tc main_v8) = rowMax (scores (m ((c.tc : Thread nD τ).loc main_arg0))) := by
        rw [← hW]
        after_reads_simp
        try simp -implicitDefEqProofs only [StableHlo.TRef.ofBuf, StableHlo.TRef.toBuf, cast_cast, cast_eq]
        rfl
      have w_v9 : W (Proc.devRef .tc main_v9) = rowArgmax (scores (m ((c.tc : Thread nD τ).loc main_arg0))) := by
        rw [← hW]
        after_reads_simp
        try simp -implicitDefEqProofs only [StableHlo.TRef.ofBuf, StableHlo.TRef.toBuf, cast_cast, cast_eq]
        rfl
      have w_v25 : W (Proc.devRef .tc main_v25) = secondScores (m ((c.tc : Thread nD τ).loc main_arg0)) := by
        rw [← hW]
        after_reads_simp
        simp only [concatenate_eq_pairs]
        after_reads_simp
        try simp -implicitDefEqProofs only [StableHlo.TRef.ofBuf, StableHlo.TRef.toBuf, cast_cast, cast_eq]
        rfl
      clear hW h
      refine Eq.trans (b := meanOf (W (Proc.devRef .tc main_v1)) (lossOf (W (Proc.devRef .tc main_v1)) (W (Proc.devRef .tc main_v7))
        (W (Proc.devRef .tc main_v8)) (W (Proc.devRef .tc main_v9)) (W (Proc.devRef .tc main_v25)))) ?_ ?_
      · after_reads_simp
        try simp -implicitDefEqProofs only [StableHlo.TRef.ofBuf, StableHlo.TRef.toBuf, cast_cast, cast_eq]
        rfl
      · rw [w_v1, w_v7, w_v8, w_v9, w_v25]
        rfl
    · after_reads_simp
    · after_reads_simp

end Cert.ReferenceIdeal.Loss

end
-- ==== Proof.Loss.KernelRun.lean ====
/-
  What the idealized kernel's result buffer holds after its run: the running sum, over the 32 grid points, of what one
  point adds (`contrib` of the point's block of scores and its row of labels).
-/
module

public import proofs.«01_k».proof.Defs
public import proofs.«01_k».proof.Proof.Gen.KernelIdeal.Frame
public import Idealize.ShloMosaic.Lib.Pipeline.Value
public import Idealize.ShloMosaic.Lib.StableHlo.Run
public import Idealize.ShloMosaic.Lib.Claim
public import Idealize.ShloMosaic.Lib.Tactic
public import Idealize.ShloMosaic.Lib.Pointwise
public import Idealize.ShloMosaic.Lib.ValueIdx

@[expose] public section

noncomputable section

namespace Cert.KernelIdeal.Loss

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- What one grid point adds to the result, from its block of scores and its row of labels. -/
def contrib (x0 : Vec Ideal S1x32x32768 .f32) (x1 : Vec Ideal S1x1x32 .i32) : Vec Ideal S1x1 .f32 :=
  k0_pay1 (k0_pay3 x1) (k0_pay4 x0 x1) k0_pay5

/-- The entrywise sum of two one-entry arrays. -/
def plus (a b : FVec Ideal S1x1 .f32) : FVec Ideal S1x1 .f32 := addf a b

/-- The first point leaves its own contribution. -/
theorem out_first (c : Dev nD) (i : grid0.Coords) (a1 : Memref sig .tc .vmem S1x32x32768 .f32) (h1 : a1.IsWhole)
    (a2 : Memref sig .tc .vmem S1x1x32 .i32) (h2 : a2.IsWhole) (a3 : Memref sig .tc .vmem S1x1 .f32) (h3 : a3.IsWhole)
    (hc0 : cond0_0 i) (hc1 : ¬cond0_1 i) (x0 : Vec Ideal S1x32x32768 .f32) (x1 : Vec Ideal S1x1x32 .i32) :
    out0_A_2 c i a1 h1 a2 h2 a3 h3 hc0 hc1 x0 x1 = contrib x0 x1 := by
  unfold out0_A_2
  rw [View.read_writes_eq_canon _ _ _ (cover0_A_2 c i a1 h1 a2 h2 a3 h3 hc0 hc1 x0 x1)]
  unfold kernelRun0_A
  dsimp only
  sl_unfold_words
  rw [View.canon_unit_zero zero2]
  simp only [View.readAt_eq_ld, h1.read_unread, h2.read_unread, View.ld_unit_zero (S := S1x32x32768) zero3,
    View.ld_unit_zero (S := S1x1x32) zero3]
  rfl

/-- A later point leaves what it found plus its own contribution. -/
theorem out_later (c : Dev nD) (i : grid0.Coords) (a1 : Memref sig .tc .vmem S1x32x32768 .f32) (h1 : a1.IsWhole)
    (a2 : Memref sig .tc .vmem S1x1x32 .i32) (h2 : a2.IsWhole) (a3 : Memref sig .tc .vmem S1x1 .f32) (h3 : a3.IsWhole)
    (hc0 : ¬cond0_0 i) (hc1 : cond0_1 i) (x0 : Vec Ideal S1x32x32768 .f32) (x1 : Vec Ideal S1x1x32 .i32) (xo : Vec Ideal S1x1 .f32) :
    out0_B_2 c i a1 h1 a2 h2 a3 h3 hc0 hc1 x0 x1 xo = plus xo (contrib x0 x1) := by
  unfold out0_B_2
  rw [View.read_writes_eq_canon _ _ _ (cover0_B_2 c i a1 h1 a2 h2 a3 h3 hc0 hc1 x0 x1 xo)]
  unfold kernelRun0_B
  dsimp only
  sl_unfold_words
  rw [View.canon_unit_zero zero2]
  simp only [View.readAt_eq_ld, h1.read_unread, h2.read_unread, h3.read_unread, View.ld_unit_zero (S := S1x32x32768) zero3,
    View.ld_unit_zero (S := S1x1x32) zero3, View.ld_unit_zero (S := S1x1) zero2]
  unfold k0_pay2 plus contrib
  rw [shapeCast_self]

/-- The running sum after point `n`. -/
def chain (c : Dev nD) : (n : ℕ) → n < cfg0.N → Vec Ideal S1x1 .f32
  | 0, h => contrib (iblk m c 0 ⟨0, h⟩) (iblk m c 1 ⟨0, h⟩)
  | n + 1, h => plus (chain c n (Nat.lt_of_succ_lt h)) (contrib (iblk m c 0 ⟨n + 1, h⟩) (iblk m c 1 ⟨n + 1, h⟩))

/-- After point `n` the result's block holds that running sum. -/
theorem outsAt_eq (c : Dev nD) : ∀ (n : ℕ) (h : n < cfg0.N), outsAt0 m c n h = chain m c n h
  | 0, h => (outsAt0_A m c ⟨0, h⟩ rfl (by dsimp only; omega)).trans (out_first ..)
  | n + 1, h => by
    have hN : cfg0.N = 32 := N_0
    rw [outsAt0_B m c ⟨n + 1, h⟩ (by dsimp only; omega) (by dsimp only; omega), out_later]
    show plus (outsAt0 m c n _) _ = plus (chain m c n _) _
    rw [outsAt_eq c n]

/-- The sum over all points, as the contents of the region's result array. -/
abbrev total (c : Dev nD) : Buf (Elt Ideal) ((c : Thread nD τ).loc main_call0_v1) :=
  chain m c 31 (by rw [show cfg0.N = 32 from N_0]; decide)

/-- The last point. -/
abbrev lastPt : Fin cfg0.N := ⟨31, by rw [show cfg0.N = 32 from N_0]; decide⟩

theorem lastIndex : (fun a => win0_2.index lastPt a * main_call0_v1.ty.shape.size a) = fun _ => 0 :=
  funext fun a => by fin_cases a <;> decide

/-- The one write-back, at the last point, writes the sum over all points. -/
theorem flushed_eq (c : Dev nD) (t : Fin cfg0.N) (hf : (cfg0.win 2).flush t = true) :
    (dats m 0 c).flushed 2 t = ((cfg0.win 2).blk t).view.read (Elt Ideal) (total m c) := by
  have hN : cfg0.N = 32 := N_0
  have h3 : t.val = 31 := by have := (flush0_2 t).mp hf; have := t.isLt; omega
  obtain rfl : t = lastPt := Fin.ext h3
  show (cfg0.win 2).cut (grid0.coords lastPt) ((dats m 0 c).after 2 lastPt) = _
  rw [after0_2, outsAt_eq]
  exact (Memref.read_access_unit_zero (Elt Ideal) main_call0_v1 lastIndex (fun a => by rw [congrFun lastIndex a]; simp) (total m c)).symm

/-- So the region's result array ends holding it. -/
theorem final (c : Dev nD) : (dats m 0 c).arrAt 2 cfg0.N = total m c :=
  (dats m 0 c).arrAt_eq_of_cover 2 (total m c) (flushed_eq m c) fun i =>
    ⟨lastPt, (flush0_2 lastPt).mpr rfl, by
      show i ∈ ((View.whole main_call0_v1).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_2.index lastPt 0 * win0_2.size 0 ≤ (i 0 : Nat) ∧ (i 0 : Nat) < win0_2.index lastPt 0 * win0_2.size 0 + win0_2.xsize (grid0.coords lastPt) 0
                  rw [show win0_2.index lastPt 0 * win0_2.size 0 = 0 from by decide +kernel, show win0_2.xsize (grid0.coords lastPt) 0 = 1 from by decide +kernel]; omega
      | ⟨1, _⟩ => show win0_2.index lastPt 1 * win0_2.size 1 ≤ (i 1 : Nat) ∧ (i 1 : Nat) < win0_2.index lastPt 1 * win0_2.size 1 + win0_2.xsize (grid0.coords lastPt) 1
                  rw [show win0_2.index lastPt 1 * win0_2.size 1 = 0 from by decide +kernel, show win0_2.xsize (grid0.coords lastPt) 1 = 1 from by decide +kernel]; omega⟩

/-- The run: the result is that sum as a scalar, the arguments are unchanged. -/
theorem run : θ_run (defs (F := Ideal)) (onTc (τ := τ) (main (F := Ideal))) ⟨m, fun _ => 0, ρ⟩ (fun r => ∀ c : Dev nD,
      r.2.mem ((c.tc : Thread nD τ).loc main_v0) = shapeCast S_ (total m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (θ_run_and (run_main m ρ) (unchanged m ρ)) fun r h c => ⟨?_, h.2 c⟩
  refine ((h.1 c).2 main_v0 (Pipeline.mem_restRefs_of main_v0 (by decide) (by decide))).trans ?_
  unfold Pipeline.afterTail₀
  have e : Pipeline.withArrays (cfgs 0).spec c (V0 m c) (fun w => (dats m 0 c).arrAt w (cfgs 0).N) (Proc.devRef .tc main_call0_v1) = total m c :=
    (Pipeline.withArrays_arr spec0 launch0.win.arr_inj c (V0 m c) _ 2).trans (final m c)
  simp only [List.flatten_cons, List.flatten_nil, List.append_nil]
  rw [show shapeCast S_ (total m c) shapeCasts_S1x1_S_ = shapeCast S_ (Pipeline.withArrays (cfgs 0).spec c (V0 m c) (fun w => (dats m 0 c).arrAt w (cfgs 0).N) (Proc.devRef .tc main_call0_v1)) shapeCasts_S1x1_S_ from by rw [e]]
  generalize Pipeline.withArrays (cfgs 0).spec c (V0 m c) (fun w => (dats m 0 c).arrAt w (cfgs 0).N) = W
  rfl

/-- The block of scores at point `t` is sequence `t`'s. -/
theorem block_scores (c : Dev nD) (t : Fin cfg0.N) (b : Fin 32) (hb : b.val = t.val) (s : Fin 32) (v : Fin 32768) :
    (iblk m c 0 t : Vec Ideal S1x32x32768 .f32) (ix3 (0 : Fin 1) s v) = m ((c : Thread nD τ).loc main_arg0) (ix3 b s v) := by
  have hi : win0_0.index t 0 = t.val ∧ win0_0.index t 1 = 0 ∧ win0_0.index t 2 = 0 := by clear hb; revert t; decide +kernel
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = b.val; omega
  | ⟨1, _⟩ => show win0_0.index t 1 * 32 + 1 * s.val = s.val; omega
  | ⟨2, _⟩ => show win0_0.index t 2 * 32768 + 1 * v.val = v.val; omega

/-- The row of labels at point `t` is sequence `t`'s. -/
theorem block_labels (c : Dev nD) (t : Fin cfg0.N) (b : Fin 32) (hb : b.val = t.val) (s : Fin 32) :
    (iblk m c 1 t : Vec Ideal S1x1x32 .i32) (ix3 (0 : Fin 1) (0 : Fin 1) s) = m ((c : Thread nD τ).loc main_arg1) (ix2 b s) := by
  have hi : win0_1.index t 0 = t.val ∧ win0_1.index t 1 = 0 ∧ win0_1.index t 2 = 0 := by clear hb; revert t; decide +kernel
  unfold iblk
  rw [View.read_apply]
  show V m c main_call0_v0 _ = m (c.tc.loc main_arg1) _
  have hv : V m c main_call0_v0 = shapeCast S32x1x32 (m ((c : Thread nD τ).loc main_arg1)) shapeCasts_S32x32_S32x1x32 := rfl
  rw [hv]
  pointwise
  congr 1
  funext a
  apply Fin.ext
  match a with
  | ⟨0, _⟩ => show win0_1.index t 0 * 1 + 1 * 0 = b.val; omega
  | ⟨1, _⟩ => show win0_1.index t 2 * 32 + 1 * s.val = s.val; omega

end Cert.KernelIdeal.Loss

end
-- ==== Proof.Loss.Row.lean ====
/-
  The mathematics of one row: a row of scores with its label, the row's best entry and its second best, the loss of the
  row, and the facts about folds (maximum, least index) that both programs' rows are read by. Nothing here names a program.
-/
module

public import Idealize.ShloMosaic.PureOps
public import Idealize.ShloMosaic.PureOps.Ideal
public import Idealize.ShloMosaic.PureOps.Reduce
public import Mathlib.Data.EReal.Operations
public import Mathlib.Data.Finset.Fold

@[expose] public section

noncomputable section

namespace Cert.Loss

open Idealize.ShloMosaic

/-- An index of a row. -/
abbrev V := Fin 32768

/-- An index as a word. -/
abbrev word (v : V) : BitVec 32 := BitVec.ofNat 32 v.val

theorem word_toInt (v : V) : (word v).toInt = (v.val : Int) := by
  have := v.isLt
  rw [BitVec.toInt_ofNat']
  simp only [Int.bmod]
  omega

theorem word_inj {v w : V} : word v = word w ↔ v = w := by
  constructor
  · intro h
    have := congrArg BitVec.toInt h
    rw [word_toInt, word_toInt] at this
    exact Fin.ext (by omega)
  · rintro rfl; rfl

theorem word_eq_zero {v : V} : word v = 0#32 ↔ v = 0 := word_inj (w := 0)

/-- `p` is the first index of the maximum of `g`. -/
def First (g : V → EReal) (p : V) : Prop := (∀ v, g v ≤ g p) ∧ ∀ v, g v = g p → p ≤ v

theorem exists_first (g : V → EReal) : ∃ p, First g p := by
  obtain ⟨a, ha⟩ := Finite.exists_max g
  have hne : (Finset.univ.filter fun v => g v = g a).Nonempty := ⟨a, by simp⟩
  refine ⟨(Finset.univ.filter fun v => g v = g a).min' hne, ?_, ?_⟩
  all_goals
    have hp : g ((Finset.univ.filter fun v => g v = g a).min' hne) = g a := (Finset.mem_filter.1 (Finset.min'_mem _ hne)).2
    intro v
    rw [hp]
  · exact ha v
  · intro h
    exact Finset.min'_le _ _ (by simp [h])

/-- The fold of `max` over a row is the entry that is above all others. -/
theorem fold_max_eq (g : V → EReal) (p : V) (h : ∀ v, g v ≤ g p) : Finset.univ.fold max ⊥ g = g p :=
  le_antisymm ((Finset.fold_max_le _).2 ⟨bot_le, fun v _ => h v⟩) (Finset.le_fold_max _ |>.2 (.inr ⟨p, Finset.mem_univ _, le_rfl⟩))

/-- One word is below the signed minimum of two exactly when it is below both. -/
theorem le_minsi (a b c : BitVec 32) : a.toInt ≤ (IntOp.minsi b c).toInt ↔ a.toInt ≤ b.toInt ∧ a.toInt ≤ c.toInt := by
  unfold IntOp.minsi
  simp only [BitVec.slt, BitVec.sle]
  split <;> simp_all <;> omega

/-- The least index (signed) of the entries satisfying `P`, all others read as 32768: `p`, where `p` is the first of them. -/
theorem fold_minsi_eq (P : V → Prop) [DecidablePred P] (p : V) (hp : P p) (hf : ∀ v, P v → p ≤ v) :
    Finset.univ.fold IntOp.minsi (2147483647#32) (fun v : V => if P v then word v else 32768#32) = word p := by
  have key := fun a : BitVec 32 => Finset.fold_op_rel_iff_and (op := IntOp.minsi) (r := fun a b : BitVec 32 => a.toInt ≤ b.toInt)
    (fun {x y z} => le_minsi x y z) (b := 2147483647#32) (f := fun v : V => if P v then word v else 32768#32) (s := Finset.univ) (c := a)
  refine BitVec.eq_of_toInt_eq (le_antisymm ?_ ?_)
  · have := ((key _).1 le_rfl).2 p (Finset.mem_univ _)
    rwa [if_pos hp] at this
  · refine (key _).2 ⟨?_, fun v _ => ?_⟩
    · rw [word_toInt]
      have := p.isLt
      have e : (2147483647#32 : BitVec 32).toInt = 2147483647 := by decide
      omega
    · by_cases h : P v
      · rw [if_pos h, word_toInt, word_toInt]
        have := hf v h
        have : p.val ≤ v.val := this
        omega
      · rw [if_neg h, word_toInt]
        have := p.isLt
        have e : (32768#32 : BitVec 32).toInt = 32768 := by decide
        omega

/-- `p` is the first index of the row's maximum, `p2` an index of the maximum of the row's other entries. -/
structure Best (f : V → ℝ) (p p2 : V) : Prop where
  top : ∀ v, f v ≤ f p
  first : ∀ v, f v = f p → p ≤ v
  ne : p2 ≠ p
  second : ∀ v, v ≠ p → f v ≤ f p2

theorem Best.isFirst {f : V → ℝ} {p p2 : V} (h : Best f p p2) : First (fun v => (f v : EReal)) p :=
  ⟨fun v => EReal.coe_le_coe_iff.2 (h.top v), fun v e => h.first v (EReal.coe_eq_coe_iff.1 e)⟩

theorem exists_best (f : V → ℝ) : ∃ q : V × V, Best f q.1 q.2 := by
  obtain ⟨p, hp, hf⟩ := exists_first fun v => (f v : EReal)
  have hne : (Finset.univ.erase p).Nonempty := by
    by_cases h : p = 0
    · exact ⟨1, by simp [h]⟩
    · exact ⟨0, by simp [Ne.symm h]⟩
  obtain ⟨q, hq, hm⟩ := Finset.exists_max_image _ f hne
  exact ⟨(p, q), fun v => EReal.coe_le_coe_iff.1 (hp v), fun v e => hf v (congrArg _ e), (Finset.mem_erase.1 hq).1,
    fun v hv => hm v (Finset.mem_erase.2 ⟨hv, Finset.mem_univ _⟩)⟩

/-- The row's best index. -/
def best (f : V → ℝ) : V := (exists_best f).choose.1

/-- An index of the maximum of the row's other entries. -/
def second (f : V → ℝ) : V := (exists_best f).choose.2

theorem best_spec (f : V → ℝ) : Best f (best f) (second f) := (exists_best f).choose_spec

/-- The loss of a row with label `y`: how far the score at the label is short, by a margin of one, of the best score at
    another index; nothing for the label zero. -/
def rowLoss (f : V → ℝ) (y : V) : ℝ :=
  if y = 0 then 0 else max (1 + (if best f = y then f (second f) else f (best f)) - f y) 0

theorem rowLoss_nonneg (f : V → ℝ) (y : V) : 0 ≤ rowLoss f y := by
  unfold rowLoss
  split
  · exact le_rfl
  · exact le_max_right _ _

theorem rowLoss_zero (f : V → ℝ) : rowLoss f 0 = 0 := if_pos rfl

/-- A sum of reals is the same sum among the extended reals. -/
theorem coe_sum {ι : Type} (t : Finset ι) (g : ι → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- The mean over the sequences of the sums of their rows' losses. -/
def meanLoss (f : Fin 32 → Fin 32 → V → ℝ) (y : Fin 32 → Fin 32 → V) : ℝ :=
  (∑ b : Fin 32, ∑ s : Fin 32, rowLoss (f b s) (y b s)) * (1 / 32)

/-- The kernel's row: the first index of the maximum as the least index of an entry that equals it, that entry replaced
    by −∞ for the second maximum, the label's score as the maximum over the one entry. -/
def kernelRow (f : V → EReal) (w : BitVec 32) : EReal :=
  Scalar.select (IntOp.cmpi .ne w 0#32)
    (max
      (1 + Scalar.select
          (IntOp.cmpi .eq (Finset.univ.fold IntOp.minsi (2147483647#32)
            (fun v : V => if f v = Finset.univ.fold max ⊥ f then word v else 32768#32)) w)
          (Finset.univ.fold max ⊥ fun v : V => Scalar.select
            (IntOp.cmpi .eq (word v) (Finset.univ.fold IntOp.minsi (2147483647#32)
              (fun u : V => if f u = Finset.univ.fold max ⊥ f then word u else 32768#32)))
            ⊥ (f v))
          (Finset.univ.fold max ⊥ f)
        - Finset.univ.fold max ⊥ fun v : V => Scalar.select (IntOp.cmpi .eq (word v) w) (f v) ⊥)
      0)
    0

theorem select_eq (a b : BitVec 32) {α : Type} (x y : α) : Scalar.select (IntOp.cmpi .eq a b) x y = if a = b then x else y := by
  by_cases h : a = b
  · simp [Scalar.select, IntOp.cmpi, h]
  · have e : (a == b) = false := beq_eq_false_iff_ne.2 h
    simp [Scalar.select, IntOp.cmpi, h, e, bne]

theorem select_ne (a b : BitVec 32) {α : Type} (x y : α) : Scalar.select (IntOp.cmpi .ne a b) x y = if a = b then y else x := by
  by_cases h : a = b
  · simp [Scalar.select, IntOp.cmpi, h]
  · have e : (a == b) = false := beq_eq_false_iff_ne.2 h
    simp [Scalar.select, IntOp.cmpi, h, e, bne]

/-- The hinge of two reals, computed among the extended reals. -/
theorem coe_hinge (a b : ℝ) : max ((1 : EReal) + (a : EReal) - (b : EReal)) 0 = ((max (1 + a - b) 0 : ℝ) : EReal) := by
  rw [EReal.coe_strictMono.monotone.map_max]
  norm_cast

/-- The kernel's row is the row's loss. -/
theorem kernelRow_eq (f : V → ℝ) (y : V) : kernelRow (fun v => (f v : EReal)) (word y) = (rowLoss f y : EReal) := by
  have hb := best_spec f
  have htop : Finset.univ.fold max ⊥ (fun v => (f v : EReal)) = (f (best f) : EReal) := fold_max_eq _ _ hb.isFirst.1
  have hidx : Finset.univ.fold IntOp.minsi (2147483647#32) (fun v : V => if (f v : EReal) = (f (best f) : EReal) then word v else 32768#32)
      = word (best f) := fold_minsi_eq (fun v => (f v : EReal) = (f (best f) : EReal)) _ rfl hb.isFirst.2
  unfold kernelRow rowLoss
  simp only [htop, hidx, select_eq, select_ne, word_inj, word_eq_zero]
  have hgold : Finset.univ.fold max ⊥ (fun v : V => if v = y then (f v : EReal) else ⊥) = (f y : EReal) := by
    rw [fold_max_eq _ y fun v => ?_, if_pos rfl]
    by_cases h : v = y
    · rw [h]
    · rw [if_neg h]; exact bot_le
  have hsec : Finset.univ.fold max ⊥ (fun v : V => if v = best f then ⊥ else (f v : EReal)) = (f (second f) : EReal) := by
    rw [fold_max_eq _ (second f) fun v => ?_, if_neg hb.ne]
    rw [if_neg hb.ne]
    by_cases h : v = best f
    · rw [if_pos h]; exact bot_le
    · rw [if_neg h]; exact EReal.coe_le_coe_iff.2 (hb.second v h)
  rw [hgold, hsec]
  by_cases h0 : y = 0
  · rw [if_pos h0, if_pos h0]; rfl
  · rw [if_neg h0, if_neg h0]
    by_cases h : best f = y
    · rw [if_pos h, if_pos h]; exact coe_hinge _ _
    · rw [if_neg h, if_neg h]; exact coe_hinge _ _

/-- The reference's row is the row's loss: the shift by a lower bound `μ` cancels; where the best index is the label, the
    second best is another index unless the label is zero, since every shifted score is at least zero. -/
theorem refRow_eq (f : V → ℝ) (μ : ℝ) (hμ : ∀ v, μ ≤ f v) (y q : V)
    (hq : First (fun v => if v = best f then 0 else ((f v : EReal) - (μ : EReal))) q) (i : ℝ) (j : ℝ)
    (hi : i = if (if best f = y then q else best f) = y then 0 else 1) (hj : j = if y = 0 then 0 else 1) :
    (i : EReal) * max (1 + ((if best f = y then (if q = best f then 0 else ((f q : EReal) - (μ : EReal))) else ((f (best f) : EReal) - (μ : EReal)))
        - ((f y : EReal) - (μ : EReal)))) 0 * (j : EReal) = (rowLoss f y : EReal) := by
  have hb := best_spec f
  unfold rowLoss
  by_cases h0 : y = 0
  · rw [if_pos h0] at hj ⊢
    rw [hj, EReal.coe_zero, mul_zero]
  · rw [if_neg h0] at hj ⊢
    rw [hj, EReal.coe_one, mul_one]
    by_cases h : best f = y
    · have hqb : q ≠ best f := by
        intro e
        have h1 : ∀ v, (if v = best f then (0 : EReal) else ((f v : EReal) - (μ : EReal))) ≤ 0 := fun v => by
          have := hq.1 v
          simp only at this
          rwa [if_pos e] at this
        have hz : (if (0 : V) = best f then (0 : EReal) else ((f 0 : EReal) - (μ : EReal))) = 0 := by
          refine le_antisymm (h1 0) ?_
          split
          · exact le_rfl
          · rw [← EReal.coe_sub]
            exact EReal.coe_nonneg.2 (sub_nonneg.2 (hμ 0))
        have : q ≤ 0 := hq.2 0 (by simp only; rw [hz, if_pos e])
        have : q = 0 := Fin.ext (by have : q.val ≤ 0 := this; show q.val = 0; omega)
        exact h0 (by rw [← h, ← e, this])
      have hfq : f q = f (second f) := by
        refine le_antisymm (hb.second q hqb) ?_
        have := hq.1 (second f)
        simp only at this
        rw [if_neg hb.ne, if_neg hqb, ← EReal.coe_sub, ← EReal.coe_sub, EReal.coe_le_coe_iff] at this
        linarith
      rw [if_pos h, if_neg (by rw [← h]; exact hqb)] at hi
      rw [hi, EReal.coe_one, one_mul, if_pos h, if_neg hqb, if_pos h, hfq, EReal.coe_strictMono.monotone.map_max]
      norm_cast
      congr 2
      ring
    · rw [if_neg h, if_neg h] at hi
      rw [hi, EReal.coe_one, one_mul, if_neg h, if_neg h, EReal.coe_strictMono.monotone.map_max]
      norm_cast
      congr 2
      ring

end Cert.Loss

end
-- ==== Proof.Loss.KernelRow.lean ====
/-
  What one grid point of the idealized kernel adds, read as mathematics: a thirty-second of the sum of its rows' losses;
  and so the sum over all points: the mean loss.
-/
module

public import proofs.«01_k».proof.Proof.Loss.KernelRun
public import proofs.«01_k».proof.Proof.Loss.Row
public import Idealize.ShloMosaic.Lib.Pointwise
public import Idealize.ShloMosaic.PureOps.IdealRules

@[expose] public section

noncomputable section

namespace Cert.KernelIdeal.Loss

open Idealize.ShloMosaic Idealize.ShloMosaic.TcCoe Cert.KernelIdeal Cert.KernelIdeal.Gen Cert.Loss

/-- The f32 pattern of −∞ is the least extended real. -/
theorem bits_bot : Ideal.ofBits .f32 0xFF800000#32 = ⊥ := by simp [Ideal.ofBits, Ideal.ieee]

/-- The f32 pattern `0x3D000000` is one thirty-second. -/
theorem bits_thirtysecond : Ideal.ofBits .f32 0x3D000000#32 = ((1 / 32 : ℝ) : EReal) := by
  simp [Ideal.ofBits, Ideal.ieee, -EReal.coe_mul]; norm_num

/-- The kernel's named constant is −∞. -/
theorem neg_bot : (Named.named κ "neg" 0xFF61B1E6#32 : Ideal .f32) = (⊥ : EReal) :=
  IdealRules.named_const.ideal_named_scalar _ _ _ _ rfl

/-- The sum of the losses of a block's rows. -/
theorem rows_eq (x0 : Vec Ideal S1x32x32768 .f32) (x1 : Vec Ideal S1x1x32 .i32) :
    k0_pay4 x0 x1 = ∑ s : Fin 32, kernelRow (fun v => x0 (ix3 (0 : Fin 1) s v)) (x1 (ix3 (0 : Fin 1) (0 : Fin 1) s)) := by
  unfold k0_pay4 k0_pay3
  dsimp only
  pointwise
  simp only [bits_bot, neg_bot]
  rfl

/-- What is stored of that sum: it, if any label is not zero, times one thirty-second. -/
theorem scaled_eq (x1 : Vec Ideal S1x1x32 .i32) (v : Ideal .f32) :
    k0_pay1 (k0_pay3 x1) v k0_pay5 (ix2 (0 : Fin 1) (0 : Fin 1))
      = (if (0 : EReal) < Finset.univ.fold max ⊥ (fun s : Fin 32 => Scalar.select (IntOp.cmpi .ne (x1 (ix3 (0 : Fin 1) (0 : Fin 1) s)) 0#32) (1 : EReal) 0)
          then v else (0 : EReal)) * ((1 / 32 : ℝ) : EReal) := by
  unfold k0_pay1 k0_pay3 k0_pay5
  dsimp only
  pointwise
  simp only [bits_bot, bits_thirtysecond]

/-- One point's contribution: a thirty-second of the sum of its rows' losses. -/
theorem contrib_eq (x0 : Vec Ideal S1x32x32768 .f32) (x1 : Vec Ideal S1x1x32 .i32) (f : Fin 32 → V → ℝ) (y : Fin 32 → V)
    (hx : ∀ s v, x0 (ix3 (0 : Fin 1) s v) = (f s v : EReal)) (hy : ∀ s, x1 (ix3 (0 : Fin 1) (0 : Fin 1) s) = word (y s)) :
    contrib x0 x1 (ix2 (0 : Fin 1) (0 : Fin 1)) = (((∑ s : Fin 32, rowLoss (f s) (y s)) * (1 / 32) : ℝ) : EReal) := by
  unfold contrib
  rw [scaled_eq, rows_eq]
  have e : (∑ s : Fin 32, kernelRow (fun v => x0 (ix3 (0 : Fin 1) s v)) (x1 (ix3 (0 : Fin 1) (0 : Fin 1) s)))
      = ((∑ s : Fin 32, rowLoss (f s) (y s) : ℝ) : EReal) := by
    rw [coe_sum]
    refine Finset.sum_congr rfl fun s _ => ?_
    rw [hy, ← kernelRow_eq]
    simp only [hx]
  rw [e, EReal.coe_mul]
  congr 1
  simp only [hy, select_ne, word_eq_zero]
  split
  · rfl
  · next h =>
    have h0 : ∀ s, y s = 0 := fun s => by
      by_contra hs
      exact h (Finset.lt_fold_max _ |>.2 (.inr ⟨s, Finset.mem_univ _, by rw [if_neg hs]; exact zero_lt_one⟩))
    simp only [h0, rowLoss_zero, Finset.sum_const_zero, EReal.coe_zero]

variable (m : (ℓ : Loc nD τ sig) → Buf (Elt Ideal) ℓ)

/-- The sum over all points is the mean loss. -/
theorem total_eq (c : Dev nD) (f : Fin 32 → Fin 32 → V → ℝ) (y : Fin 32 → Fin 32 → V)
    (hx : ∀ b s v, m ((c : Thread nD τ).loc main_arg0) (ix3 b s v) = (f b s v : EReal))
    (hy : ∀ b s, m ((c : Thread nD τ).loc main_arg1) (ix2 b s) = word (y b s)) :
    total m c (ix2 (0 : Fin 1) (0 : Fin 1)) = (meanLoss f y : EReal) := by
  have hN : cfg0.N = 32 := N_0
  have one : ∀ (n : ℕ) (h : n < cfg0.N) (b : Fin 32), b.val = n →
      contrib (iblk m c 0 ⟨n, h⟩) (iblk m c 1 ⟨n, h⟩) (ix2 (0 : Fin 1) (0 : Fin 1))
        = (((∑ s : Fin 32, rowLoss (f b s) (y b s)) * (1 / 32) : ℝ) : EReal) := fun n h b hb =>
    contrib_eq _ _ (f b) (y b) (fun s v => (block_scores m c ⟨n, h⟩ b hb s v).trans (hx b s v))
      (fun s => (block_labels m c ⟨n, h⟩ b hb s).trans (hy b s))
  have all : ∀ (n : ℕ) (h : n < cfg0.N), chain m c n h (ix2 (0 : Fin 1) (0 : Fin 1))
      = ((∑ k ∈ Finset.range (n + 1), if hk : k < 32 then (∑ s : Fin 32, rowLoss (f ⟨k, hk⟩ s) (y ⟨k, hk⟩ s)) * (1 / 32) else 0 : ℝ) : EReal) := by
    intro n
    induction n with
    | zero =>
      intro h
      rw [Finset.sum_range_one, dif_pos (by decide)]
      exact one 0 h ⟨0, by decide⟩ rfl
    | succ n ih =>
      intro h
      have hn : n + 1 < 32 := hN ▸ h
      rw [Finset.sum_range_succ, EReal.coe_add, dif_pos hn, ← one (n + 1) h ⟨n + 1, hn⟩ rfl, ← ih (Nat.lt_of_succ_lt h)]
      rfl
  refine (all 31 _).trans (congrArg _ ?_)
  unfold meanLoss
  rw [Finset.sum_mul, Finset.sum_range]
  exact Finset.sum_congr rfl fun k _ => dif_pos k.isLt

end Cert.KernelIdeal.Loss

end
-- ==== Proof.Loss.Argmax.lean ====
/-
  The reference's arg-max of a row: the fold that keeps the better of two (score, index) pairs ends with the first index of
  the row's maximum.
-/
module

public import proofs.«01_k».proof.Proof.Loss.Run
public import proofs.«01_k».proof.Proof.Loss.Row
public import Idealize.ShloMosaic.Lib.Pointwise.Index
public import Idealize.ShloMosaic.PureOps.Ideal.Laws
public import Idealize.ShloMosaic.PureOps.Reduce

@[expose] public section

noncomputable section

namespace Cert.ReferenceIdeal.Loss

open Idealize.ShloMosaic Cert.ReferenceIdeal Cert.ReferenceIdeal.Gen Cert.Loss

/-- A (score, index) pair. -/
abbrev Pair := EReal × BitVec 32

/-- `r` is at least as good as `q`: a greater score, or the same score at an index not after `q`'s. -/
def AtLeast (r q : Pair) : Prop := q.1 < r.1 ∨ (q.1 = r.1 ∧ r.2.toInt ≤ q.2.toInt)

theorem AtLeast.refl (r : Pair) : AtLeast r r := .inr ⟨rfl, le_rfl⟩

theorem AtLeast.trans {a b c : Pair} (h : AtLeast a b) (h' : AtLeast b c) : AtLeast a c := by
  rcases h with h | ⟨e, h⟩ <;> rcases h' with h' | ⟨e', h'⟩
  · exact .inl (h'.trans h)
  · exact .inl (e' ▸ h)
  · exact .inl (e ▸ h')
  · exact .inr ⟨e'.trans e, h.trans h'⟩

/-- The printed body returns one of its two pairs, and one at least as good as either. -/
theorem body_spec (a b : Pair) :
    ∃ r : Pair, reducer_argmax_f32_i32 (F := Ideal) a b = r ∧ (r = a ∨ r = b) ∧ AtLeast r a ∧ AtLeast r b := by
  refine ⟨_, rfl, ?_⟩
  obtain ⟨a1, a2⟩ := a
  obtain ⟨b1, b2⟩ := b
  unfold reducer_argmax_f32_i32 AtLeast
  simp only [Ideal.cmpf_def, Ideal.cmp, IntOp.ori, IntOp.andi, IntOp.cmpi, Scalar.select]
  rcases lt_trichotomy b1 a1 with h | h | h
  · simp [h, h.ne', h.le]
  · subst h
    by_cases hs : a2.toInt < b2.toInt
    · have e : a2.slt b2 = true := by simp [BitVec.slt, hs]
      simp [e]
      omega
    · have e : a2.slt b2 = false := by simp [BitVec.slt]; omega
      simp [e]
      omega
  · simp [h, h.ne, h.not_gt, h.le]

/-- A left fold of such a body ends with the initial pair or one of the list's, at least as good as every one of them. -/
theorem foldl_spec (f : Pair → Pair → Pair) (hf : ∀ a b, (f a b = a ∨ f a b = b) ∧ AtLeast (f a b) a ∧ AtLeast (f a b) b) (l : List Pair) :
    ∀ i : Pair, (l.foldl f i = i ∨ l.foldl f i ∈ l) ∧ AtLeast (l.foldl f i) i ∧ ∀ q ∈ l, AtLeast (l.foldl f i) q := by
  induction l with
  | nil => exact fun i => ⟨.inl rfl, .refl i, fun _ h => absurd h List.not_mem_nil⟩
  | cons b l ih =>
    intro i
    obtain ⟨h1, h2, h3⟩ := ih (f i b)
    obtain ⟨g1, g2, g3⟩ := hf i b
    rw [List.foldl_cons]
    refine ⟨?_, h2.trans g2, fun q hq => ?_⟩
    · rcases h1 with h1 | h1
      · rw [h1]
        rcases g1 with g1 | g1
        · exact .inl g1
        · rw [g1]; exact .inr List.mem_cons_self
      · exact .inr (List.mem_cons_of_mem _ h1)
    · rcases List.mem_cons.1 hq with rfl | hq
      · exact h2.trans g3
      · exact h3 q hq

/-- A fold over the pairs of a row (each score with its index, in whatever order), from (−∞, 0), ends with the first index
    of the maximum. -/
theorem foldl_first (f : Pair → Pair → Pair) (hf : ∀ a b, (f a b = a ∨ f a b = b) ∧ AtLeast (f a b) a ∧ AtLeast (f a b) b)
    (l : List Pair) (g : V → EReal) (p : V) (hp : First g p) (hl : ∀ q, q ∈ l ↔ ∃ v : V, q = (g v, word v)) :
    (l.foldl f (⊥, 0#32)).2 = word p := by
  obtain ⟨h1, h2, h3⟩ := foldl_spec f hf l (⊥, 0#32)
  have hb := h3 _ ((hl _).2 ⟨p, rfl⟩)
  generalize l.foldl f (⊥, 0#32) = r at *
  rcases h1 with rfl | h1
  · rcases hb with hb | ⟨hb, hi⟩
    · exact absurd hb not_lt_bot
    · have h0 : p ≤ 0 := hp.2 0 (le_antisymm (hp.1 0) (by rw [show g p = ⊥ from hb]; exact bot_le))
      have : p = 0 := Fin.ext (by have : p.val ≤ 0 := h0; show p.val = 0; omega)
      rw [this]; rfl
  · obtain ⟨v, rfl⟩ := (hl _).1 h1
    rcases hb with hb | ⟨hb, hi⟩
    · exact absurd hb (hp.1 v).not_gt
    · have hv : p ≤ v := hp.2 v (Eq.symm hb)
      simp only [word_toInt] at hi
      rw [show v = p from Fin.ext (by have : p.val ≤ v.val := hv; omega)]

/-- A pair is one that row `r`'s fold runs over exactly when it is a score of the row with its index. -/
theorem mem_fiber {R C : ℕ} (s : (⟨2, ![R, C]⟩ : Shape).Idx → EReal) (y : (⟨2, ![R, C]⟩ : Shape).Idx → BitVec 32)
    (h : (⟨2, ![R, C]⟩ : Shape).ReducesTo [1] ⟨1, ![R]⟩) (r : Fin R) (q : Pair) :
    q ∈ Host.argReduceFiber s y h (ix1 r) ↔ ∃ v : Fin C, q = (s (ix2 r v), y (ix2 r v)) := by
  have hd : ∀ i : (⟨2, ![R, C]⟩ : Shape).Idx, h.drop i = ix1 r ↔ i 0 = r := fun i => by
    have e := h.drop_apply_val_of_eq i 0 0 (show 0 < 1 by decide) rfl
    constructor
    · intro hi
      have := congrArg Fin.val (congrFun hi 0)
      exact Fin.ext (e.symm.trans this)
    · intro hi
      funext b
      match b with
      | ⟨0, _⟩ => exact Fin.ext (e.trans (congrArg Fin.val hi))
  unfold Host.argReduceFiber
  simp only [List.mem_map, List.mem_filter, List.mem_finRange, true_and, decide_eq_true_eq]
  constructor
  · rintro ⟨n, hn, rfl⟩
    generalize (⟨2, ![R, C]⟩ : Shape).rowMajor.symm n = i at hn ⊢
    have hi : i = ix2 r (i 1) := by
      funext a
      match a with
      | ⟨0, _⟩ => exact (hd i).1 hn
      | ⟨1, _⟩ => rfl
    exact ⟨i 1, congrArg (fun j => (s j, y j)) hi⟩
  · rintro ⟨v, rfl⟩
    refine ⟨(⟨2, ![R, C]⟩ : Shape).rowMajor (ix2 r v), ?_, ?_⟩
    · rw [Equiv.symm_apply_apply]
      exact (hd _).2 rfl
    · rw [Equiv.symm_apply_apply]

/-- The f32 pattern of −∞ is the least extended real. -/
theorem ofBits_bot : Ideal.ofBits .f32 0xFF800000#32 = ⊥ := by simp [Ideal.ofBits, Ideal.ieee]

/-- The printed arg-max of row `r`, at any number of rows, from (−∞, 0), is the first index of the row's maximum. -/
theorem argReduce_first {R : ℕ} {u : Shape} (s : FVec Ideal ⟨2, ![R, 32768]⟩ .f32) (y : IVec ⟨2, ![R, 32768]⟩ 32)
    (hy : ∀ r (v : V), y (ix2 r v) = word v) (ix : u.Idx → Ideal .f32) (iy : u.Idx → BitVec 32) (hu : 0 < u.numel)
    (hx : ∀ i, ix i = (⊥ : EReal)) (hiy : ∀ i, iy i = 0#32) (h : (⟨2, ![R, 32768]⟩ : Shape).ReducesTo [1] ⟨1, ![R]⟩) (r : Fin R)
    (p : V) (hp : First (fun v => s (ix2 r v)) p) :
    (Host.argReduce (reducer_argmax_f32_i32 (F := Ideal)) s y ix iy h hu (ix1 r)).2 = word p := by
  rw [Ideal.argReduce_eq_reduce2, Host.reduce2_eq_foldl_fiber, hx, hiy]
  refine foldl_first _ (fun a b => ?_) _ (fun v => s (ix2 r v)) p hp fun q => ?_
  · obtain ⟨c, hc, h⟩ := body_spec a b
    rw [hc]
    exact h
  · rw [mem_fiber]
    simp only [hy]

/-- The arg-max of every row, as it is printed. -/
theorem rowArgmax_fun (s : FVec Ideal S1024x32768 .f32) : rowArgmax s = fun j =>
    (Host.argReduce (reducer_argmax_f32_i32 (F := Ideal)) s (iotaInDim S1024x32768 32 1) (constant (F := Ideal) S_ .f32 0xFF800000#32)
    (constantI S_ 32 0#32) reducesTo_S1024x32768_S1024_d1 h_S_ j).2 := rfl

/-- The arg-max of row `r` is the first index of the row's maximum. -/
theorem rowArgmax_eq (s : FVec Ideal S1024x32768 .f32) (r : Fin 1024) (p : V) (hp : First (fun v => s (ix2 r v)) p) :
    rowArgmax s (ix1 r) = word p :=
  (congrFun (rowArgmax_fun s) (ix1 r)).trans
    (argReduce_first (R := 1024) (u := S_) s (iotaInDim S1024x32768 32 1) (fun _ _ => rfl) (constant (F := Ideal) S_ .f32 0xFF800000#32)
      (constantI S_ 32 0#32) h_S_ (fun _ => ofBits_bot) (fun _ => rfl) reducesTo_S1024x32768_S1024_d1 r p hp)

end Cert.ReferenceIdeal.Loss

end
-- ==== Proof.Loss.Places.lean ====
/-
  Where the reference's gather reads and its scatter writes: the gather at a row's label, the scatter at a row's best index.
-/
module

public import proofs.«01_k».proof.Proof.Loss.Run
public import proofs.«01_k».proof.Proof.Loss.Row
public import Idealize.ShloMosaic.Lib.Pointwise.Index
public import Idealize.ShloMosaic.Lib.Routing.OpsSet
public import Idealize.ShloMosaic.Lib.Routing.OpsPair

@[expose] public section

noncomputable section

namespace Cert.ReferenceIdeal.Loss

open Idealize.ShloMosaic Cert.ReferenceIdeal Cert.ReferenceIdeal.Gen Cert.Loss

/-- Update `k` lands at `(r, c)` exactly when its two index words, read signed, are `r` and `c`. -/
theorem scatter_lands (k : Fin 1024) (idx : IVec S1024x2 32) (r : Fin 1024) (c : Fin 32768) :
    scatter_S1024x32768_S1024x2_S1024_n_01_01_1.resultIdx? (ix1 k) idx = some (ix2 r c)
      ↔ (idx (ix2 k (0 : Fin 2))).toInt = r.val ∧ (idx (ix2 k (1 : Fin 2))).toInt = c.val := by
  rw [Routing.resultIdx?_eq_some]
  have e0 : scatter_S1024x32768_S1024x2_S1024_n_01_01_1.start (ix1 k) idx 0 = (idx (ix2 k (0 : Fin 2))).toInt := by
    refine congrArg (fun j => (idx j).toInt) (funext fun a => ?_)
    match a with
    | ⟨0, _⟩ => rfl
    | ⟨1, _⟩ => rfl
  have e1 : scatter_S1024x32768_S1024x2_S1024_n_01_01_1.start (ix1 k) idx 1 = (idx (ix2 k (1 : Fin 2))).toInt := by
    refine congrArg (fun j => (idx j).toInt) (funext fun a => ?_)
    match a with
    | ⟨0, _⟩ => rfl
    | ⟨1, _⟩ => rfl
  have w0 : scatter_S1024x32768_S1024x2_S1024_n_01_01_1.window (ix1 k) 0 = 0 := rfl
  have w1 : scatter_S1024x32768_S1024x2_S1024_n_01_01_1.window (ix1 k) 1 = 0 := rfl
  constructor
  · intro h
    have h0 := h 0
    have h1 := h 1
    rw [e0, w0] at h0
    rw [e1, w1] at h1
    exact ⟨by simpa using h0, by simpa using h1⟩
  · rintro ⟨h0, h1⟩ a
    match a with
    | ⟨0, _⟩ => exact (congrArg₂ (fun (x : Int) (y : ℕ) => x + (y : Int)) e0 w0).trans (by simpa using h0)
    | ⟨1, _⟩ => exact (congrArg₂ (fun (x : Int) (y : ℕ) => x + (y : Int)) e1 w1).trans (by simpa using h1)

/-- A gather whose index word for row `r` names column `c` reads entry `(r, c)`. -/
theorem gather_reads (s : FVec Ideal S1024x32768 .f32) (idx : IVec S1024x1x1 32) (r : Fin 1024) (c : V)
    (h : idx (ix3 r (0 : Fin 1) (0 : Fin 1)) = word c) :
    Host.gather gather_S1024x32768_S1024x1x1_S1024x1_n_1_0_0_1_2_11 s idx (ix2 r (0 : Fin 1)) = s (ix2 r c) := by
  unfold Host.gather
  refine congrArg s (funext fun a => Fin.ext ?_)
  match a with
  | ⟨0, _⟩ =>
    show gather_S1024x32768_S1024x1x1_S1024x1_n_1_0_0_1_2_11.start (ix2 r (0 : Fin 1)) idx 0
      + gather_S1024x32768_S1024x1x1_S1024x1_n_1_0_0_1_2_11.batchCoord (ix2 r (0 : Fin 1)) 0
      + gather_S1024x32768_S1024x1x1_S1024x1_n_1_0_0_1_2_11.offCoord (ix2 r (0 : Fin 1)) 0 = r.val
    have e1 : gather_S1024x32768_S1024x1x1_S1024x1_n_1_0_0_1_2_11.start (ix2 r (0 : Fin 1)) idx 0 = 0 := rfl
    have e2 : gather_S1024x32768_S1024x1x1_S1024x1_n_1_0_0_1_2_11.batchCoord (ix2 r (0 : Fin 1)) 0 = r.val := rfl
    have e3 : gather_S1024x32768_S1024x1x1_S1024x1_n_1_0_0_1_2_11.offCoord (ix2 r (0 : Fin 1)) 0 = 0 := rfl
    omega
  | ⟨1, _⟩ =>
    show gather_S1024x32768_S1024x1x1_S1024x1_n_1_0_0_1_2_11.start (ix2 r (0 : Fin 1)) idx 1
      + gather_S1024x32768_S1024x1x1_S1024x1_n_1_0_0_1_2_11.batchCoord (ix2 r (0 : Fin 1)) 1
      + gather_S1024x32768_S1024x1x1_S1024x1_n_1_0_0_1_2_11.offCoord (ix2 r (0 : Fin 1)) 1 = c.val
    have e1 : gather_S1024x32768_S1024x1x1_S1024x1_n_1_0_0_1_2_11.start (ix2 r (0 : Fin 1)) idx 1
        = min (idx (ix3 r (0 : Fin 1) (0 : Fin 1))).toInt.toNat 32767 := by
      refine congrArg (fun j => min (idx j).toInt.toNat 32767) (funext fun a => ?_)
      match a with
      | ⟨0, _⟩ => rfl
      | ⟨1, _⟩ => rfl
      | ⟨2, _⟩ => rfl
    have e2 : gather_S1024x32768_S1024x1x1_S1024x1_n_1_0_0_1_2_11.batchCoord (ix2 r (0 : Fin 1)) 1 = 0 := rfl
    have e3 : gather_S1024x32768_S1024x1x1_S1024x1_n_1_0_0_1_2_11.offCoord (ix2 r (0 : Fin 1)) 1 = 0 := rfl
    rw [e1, e2, e3, h, word_toInt]
    have := c.isLt
    omega

end Cert.ReferenceIdeal.Loss

end
-- ==== Proof.Loss.RefRead.lean ====
/-
  The reference's arrays read at a row: the labels, the shifted scores and their maximum, the score at the label, the scores
  with the best one replaced, and from these the row's loss.
-/
module

public import proofs.«01_k».proof.Proof.Loss.Run
public import proofs.«01_k».proof.Proof.Loss.Row
public import proofs.«01_k».proof.Proof.Loss.Argmax
public import proofs.«01_k».proof.Proof.Loss.Places
public import Idealize.ShloMosaic.Lib.Pointwise

@[expose] public section

noncomputable section

namespace Cert.ReferenceIdeal.Loss

open Idealize.ShloMosaic Cert.ReferenceIdeal Cert.ReferenceIdeal.Gen Cert.Loss

/-- The sequence of row `r`. -/
abbrev seqOf (r : Fin 1024) : Fin 32 := ⟨r.val / 32, by omega⟩

/-- The place of row `r` in its sequence. -/
abbrev posOf (r : Fin 1024) : Fin 32 := ⟨r.val % 32, by omega⟩

/-- The f32 pattern of +∞ is the greatest extended real. -/
theorem ofBits_top : Ideal.ofBits .f32 0x7F800000#32 = ⊤ := by simp [Ideal.ofBits, Ideal.ieee]

/-- The fold of `min` over a family is its least member. -/
theorem fold_min_spec {ι : Type} [Fintype ι] [Nonempty ι] (g : ι → EReal) :
    ∃ i, Finset.univ.fold min ⊤ g = g i ∧ ∀ j, g i ≤ g j := by
  obtain ⟨i, hi⟩ := Finite.exists_min g
  exact ⟨i, le_antisymm (Finset.fold_min_le _ |>.2 (.inr ⟨i, Finset.mem_univ _, le_rfl⟩)) ((Finset.le_fold_min _).2 ⟨le_top, fun j _ => hi j⟩), hi⟩

theorem labels_apply (y : IVec S32x32 32) (r : Fin 1024) : labels y (ix1 r) = y (ix2 (seqOf r) (posOf r)) := by
  unfold labels
  pointwise

/-- The shifted scores: each score less a lower bound of them all. -/
theorem scores_apply (x : FVec Ideal S32x32x32768 .f32) (f : Fin 32 → Fin 32 → V → ℝ)
    (hx : ∀ b s v, x (ix3 b s v) = (f b s v : EReal)) :
    ∃ μ : ℝ, (∀ r v, μ ≤ f (seqOf r) (posOf r) v)
      ∧ ∀ r v, scores x (ix2 r v) = (f (seqOf r) (posOf r) v : EReal) - (μ : EReal) := by
  obtain ⟨i, hi, hm⟩ := fold_min_spec (fun i : Fin 1024 × V => x (ix3 (seqOf i.1) (posOf i.1) i.2))
  refine ⟨f (seqOf i.1) (posOf i.1) i.2, fun r v => ?_, fun r v => ?_⟩
  · have := hm (r, v)
    simp only [hx, EReal.coe_le_coe_iff] at this
    exact this
  · rw [← hx, ← hx]
    refine Eq.trans ?_ (congrArg (fun z => x (ix3 (seqOf r) (posOf r) v) - z) hi)
    unfold scores
    pointwise
    rw [ofBits_top]

/-- The maximum of row `r`, where it is at `p`. -/
theorem rowMax_apply (s : FVec Ideal S1024x32768 .f32) (r : Fin 1024) (p : V) (hp : ∀ v, s (ix2 r v) ≤ s (ix2 r p)) :
    rowMax s (ix1 r) = s (ix2 r p) := by
  refine Eq.trans ?_ (fold_max_eq (fun v => s (ix2 r v)) p hp)
  unfold rowMax
  pointwise
  rw [ofBits_bot]

theorem word_toNat (v : V) : (word v).toNat = v.val := by
  have := v.isLt
  rw [BitVec.toNat_ofNat]
  omega

/-- The index word of row `r`'s label. -/
theorem goldIdx3_apply (y : IVec S32x32 32) (r : Fin 1024) (c : V) (hc : labels y (ix1 r) = word c) :
    goldIdx3 y (ix3 r (0 : Fin 1) (0 : Fin 1)) = word c := by
  have e : goldIdx3 y (ix3 r (0 : Fin 1) (0 : Fin 1))
      = Scalar.select (IntOp.cmpi .slt (labels y (ix1 r)) 0#32) (IntOp.addi (labels y (ix1 r)) 32768#32) (labels y (ix1 r)) := by
    unfold goldIdx3 goldIdx
    pointwise
  rw [e, hc]
  refine Routing.wrap_of_lt _ _ ?_
  rw [word_toNat]
  have := c.isLt
  omega

theorem cmpi_sge_word (c : V) : IntOp.cmpi .sge (word c) 0#32 = 1#1 := by
  have h : (0#32 : BitVec 32).sle (word c) = true := by
    simp only [BitVec.sle, word_toInt, decide_eq_true_eq]
    have e : (0#32 : BitVec 32).toInt = 0 := by decide
    omega
  simp [IntOp.cmpi, h]

theorem cmpi_sle_word (c : V) : IntOp.cmpi .sle (word c) 32767#32 = 1#1 := by
  have h : (word c).sle 32767#32 = true := by
    simp only [BitVec.sle, word_toInt, decide_eq_true_eq]
    have e : (32767#32 : BitVec 32).toInt = 32767 := by decide
    have := c.isLt
    omega
  simp [IntOp.cmpi, h]

/-- Row `r`'s index names an entry. -/
theorem goldOk_apply (y : IVec S32x32 32) (r : Fin 1024) (c : V) (hc : labels y (ix1 r) = word c) :
    goldOk y (ix2 r (0 : Fin 1)) = 1#1 := by
  have e : goldOk y (ix2 r (0 : Fin 1)) = Finset.univ.fold IntOp.andi (1#1)
      (fun k : Fin 1 => IntOp.andi (IntOp.cmpi .sge (goldIdx3 y (ix3 r (0 : Fin 1) k)) 0#32)
        (IntOp.cmpi .sle (goldIdx3 y (ix3 r (0 : Fin 1) k)) 32767#32)) := by
    unfold goldOk
    pointwise
  rw [e, Finset.univ_unique, Finset.fold_singleton]
  show IntOp.andi (IntOp.andi (IntOp.cmpi .sge (goldIdx3 y (ix3 r (0 : Fin 1) (0 : Fin 1))) 0#32)
    (IntOp.cmpi .sle (goldIdx3 y (ix3 r (0 : Fin 1) (0 : Fin 1))) 32767#32)) 1#1 = 1#1
  rw [goldIdx3_apply y r c hc, cmpi_sge_word, cmpi_sle_word]
  rfl

/-- The score at row `r`'s label. -/
theorem goldScores_apply (x : FVec Ideal S32x32x32768 .f32) (y : IVec S32x32 32) (r : Fin 1024) (c : V) (hc : labels y (ix1 r) = word c) :
    goldScores x y (ix1 r) = scores x (ix2 r c) := by
  have e : goldScores x y (ix1 r) = Scalar.select (goldOk y (ix2 r (0 : Fin 1)))
      (Host.gather gather_S1024x32768_S1024x1x1_S1024x1_n_1_0_0_1_2_11 (scores x) (goldIdx3 y) (ix2 r (0 : Fin 1)))
      (Ideal.ofBits .f32 0x7FC00000#32) := by
    unfold goldScores
    pointwise
  rw [e, goldOk_apply y r c hc]
  exact gather_reads (scores x) (goldIdx3 y) r c (goldIdx3_apply y r c hc)

/-- The scatter's table of index pairs. -/
abbrev table (x : FVec Ideal S32x32x32768 .f32) : IVec S1024x2 32 :=
  pairs (broadcastInDim S1024x1 ![0] bcast_S1024_S1024x1_0 rowIdx) (broadcastInDim S1024x1 ![0] bcast_S1024_S1024x1_0 (colIdx x))

theorem table_row (x : FVec Ideal S32x32x32768 .f32) (r : Fin 1024) : (table x (ix2 r (0 : Fin 2))).toInt = r.val := by
  have e : table x (ix2 r (0 : Fin 2)) = Scalar.select (IntOp.cmpi .slt (BitVec.ofNat 32 r.val) 0#32)
      (IntOp.addi (BitVec.ofNat 32 r.val) 1024#32) (BitVec.ofNat 32 r.val) := by
    unfold table pairs rowIdx
    pointwise
  have hr := r.isLt
  have hn : (BitVec.ofNat 32 r.val).toNat = r.val := by rw [BitVec.toNat_ofNat]; omega
  rw [e, Routing.wrap_of_lt _ _ (by rw [hn]; omega), BitVec.toInt_eq_toNat_of_lt (by rw [hn]; omega), hn]

theorem table_col (x : FVec Ideal S32x32x32768 .f32) (r : Fin 1024) (p : V) (hp : rowArgmax (scores x) (ix1 r) = word p) :
    (table x (ix2 r (1 : Fin 2))).toInt = p.val := by
  have e : table x (ix2 r (1 : Fin 2)) = Scalar.select (IntOp.cmpi .slt (rowArgmax (scores x) (ix1 r)) 0#32)
      (IntOp.addi (rowArgmax (scores x) (ix1 r)) 32768#32) (rowArgmax (scores x) (ix1 r)) := by
    unfold table pairs colIdx
    pointwise
  have := p.isLt
  rw [e, hp, Routing.wrap_of_lt _ _ (by rw [word_toNat]; omega), word_toInt]

/-- The scores with each row's best one replaced by zero. -/
theorem secondScores_apply (x : FVec Ideal S32x32x32768 .f32) (p : Fin 1024 → V) (hp : ∀ r, rowArgmax (scores x) (ix1 r) = word (p r))
    (r : Fin 1024) (v : V) : secondScores x (ix2 r v) = if v = p r then 0 else scores x (ix2 r v) := by
  have lands : ∀ (k : S1024.Idx), scatter_S1024x32768_S1024x2_S1024_n_01_01_1.resultIdx? k (table x) = some (ix2 r v) ↔ (k 0 = r ∧ p r = v) := by
    intro k
    obtain ⟨a, rfl⟩ : ∃ a : Fin 1024, k = ix1 a := ⟨k 0, by
      funext a
      match a with
      | ⟨0, _⟩ => rfl⟩
    refine (scatter_lands a (table x) r v).trans ?_
    rw [table_row, table_col x a (p a) (hp _)]
    show _ ↔ a = r ∧ p r = v
    constructor
    · rintro ⟨h0, h1⟩
      have e : a = r := Fin.ext (by exact_mod_cast h0)
      exact ⟨e, Fin.ext (by rw [← e]; exact_mod_cast h1)⟩
    · rintro ⟨rfl, rfl⟩
      exact ⟨rfl, rfl⟩
  unfold secondScores
  by_cases h : v = p r
  · rw [if_pos h]
    refine Routing.scatter_set_hit _ _ _ _ _ _ (fun k _ => ?_) (ix1 r) ((lands (ix1 r)).2 ⟨rfl, h.symm⟩)
    exact Ideal.ofBits_zero_f32
  · rw [if_neg h]
    exact Routing.scatter_set_miss _ _ _ _ _ fun k hk => h ((lands k).1 hk).2.symm

end Cert.ReferenceIdeal.Loss

end
-- ==== Proof.Loss.RefRow.lean ====
/-
  The reference's result as mathematics: each row's loss, and the mean loss.
-/
module

public import proofs.«01_k».proof.Proof.Loss.RefRead

@[expose] public section

noncomputable section

namespace Cert.ReferenceIdeal.Loss

open Idealize.ShloMosaic Cert.ReferenceIdeal Cert.ReferenceIdeal.Gen Cert.Loss

/-- The f32 pattern `0x42000000` is thirty-two. -/
theorem bits_thirtytwo : Ideal.ofBits .f32 0x42000000#32 = ((32 : ℝ) : EReal) := by
  simp [Ideal.ofBits, Ideal.ieee, -EReal.coe_mul]; norm_num

/-- A comparison for difference, as a number. -/
theorem cmpi_ne_toNat (a b : BitVec 32) : (((IntOp.cmpi .ne a b).toNat : ℝ)) = if a = b then 0 else 1 := by
  by_cases h : a = b
  · simp [IntOp.cmpi, h]
  · have e : (a == b) = false := beq_eq_false_iff_ne.2 h
    simp [IntOp.cmpi, h, e, bne]

/-- The loss array at row `r`, from the arrays it is computed from at that row. -/
theorem lossOf_apply (lab : IVec S1024 32) (gold best : FVec Ideal S1024 .f32) (bestIdx : IVec S1024 32)
    (second : FVec Ideal S1024x32768 .f32) (r : Fin 1024) :
    lossOf lab gold best bestIdx second (ix1 r)
      = (((IntOp.cmpi .ne (Scalar.select (IntOp.cmpi .eq (bestIdx (ix1 r)) (lab (ix1 r))) (rowArgmax second (ix1 r)) (bestIdx (ix1 r))) (lab (ix1 r))).toNat : ℝ) : EReal)
        * max ((1 : EReal) + ((Scalar.select (IntOp.cmpi .eq (bestIdx (ix1 r)) (lab (ix1 r))) (rowMax second (ix1 r)) (best (ix1 r)) : EReal) - gold (ix1 r))) 0
        * (((IntOp.cmpi .ne (lab (ix1 r)) 0#32).toNat : ℝ) : EReal) := by
  unfold lossOf ignoreMask
  pointwise
  rfl

/-- The loss array at row `r` is the row's loss. -/
theorem loss_apply (x : FVec Ideal S32x32x32768 .f32) (y : IVec S32x32 32) (f : Fin 32 → Fin 32 → V → ℝ) (l : Fin 32 → Fin 32 → V)
    (hx : ∀ b s v, x (ix3 b s v) = (f b s v : EReal)) (hy : ∀ b s, y (ix2 b s) = word (l b s)) (r : Fin 1024) :
    lossOf (labels y) (goldScores x y) (rowMax (scores x)) (rowArgmax (scores x)) (secondScores x) (ix1 r)
      = (rowLoss (f (seqOf r) (posOf r)) (l (seqOf r) (posOf r)) : EReal) := by
  obtain ⟨μ, hμ, hs⟩ := scores_apply x f hx
  have hl : labels y (ix1 r) = word (l (seqOf r) (posOf r)) := (labels_apply y r).trans (hy _ _)
  have hfirst : ∀ r : Fin 1024, First (fun v => scores x (ix2 r v)) (best (f (seqOf r) (posOf r))) := fun r => by
    have hb := best_spec (f (seqOf r) (posOf r))
    refine ⟨fun v => ?_, fun v h => ?_⟩
    · simp only [hs, ← EReal.coe_sub, EReal.coe_le_coe_iff]
      linarith [hb.top v]
    · simp only [hs, ← EReal.coe_sub, EReal.coe_eq_coe_iff] at h
      exact hb.first v (by linarith)
  have harg : ∀ r : Fin 1024, rowArgmax (scores x) (ix1 r) = word (best (f (seqOf r) (posOf r))) := fun r => rowArgmax_eq _ r _ (hfirst r)
  have hsec : ∀ v, secondScores x (ix2 r v)
      = if v = best (f (seqOf r) (posOf r)) then 0 else ((f (seqOf r) (posOf r) v : EReal) - (μ : EReal)) := fun v => by
    rw [secondScores_apply x (fun r => best (f (seqOf r) (posOf r))) harg r v, hs]
  obtain ⟨q, hq⟩ := exists_first fun v => secondScores x (ix2 r v)
  rw [lossOf_apply, rowArgmax_eq _ r q hq, rowMax_apply _ r q hq.1, rowMax_apply _ r _ (hfirst r).1, harg r,
    goldScores_apply x y r _ hl, hl, hs, hs, hsec, select_eq, select_eq, cmpi_ne_toNat, cmpi_ne_toNat]
  simp only [hsec] at hq
  simp only [word_inj, word_eq_zero]
  refine refRow_eq (f (seqOf r) (posOf r)) μ (hμ r) (l (seqOf r) (posOf r)) q hq _ _ ?_ rfl
  by_cases h : best (f (seqOf r) (posOf r)) = l (seqOf r) (posOf r)
  · rw [if_pos h, if_pos h]; simp only [word_inj]
  · rw [if_neg h, if_neg h]; simp only [word_inj]

/-- A count of bits among at most 2³⁰ of them does not wrap. -/
theorem count_toNat {ι : Type} (t : Finset ι) (ht : t.card ≤ 2 ^ 30) (g : ι → BitVec 1) :
    (t.fold IntOp.addi (0#32) fun i => BitVec.setWidth 32 (g i)).toNat = ∑ i ∈ t, (g i).toNat := by
  classical
  have bit : ∀ b : BitVec 1, b.toNat ≤ 1 := fun b => by have := b.isLt; omega
  have key : ∀ t : Finset ι, t.card ≤ 2 ^ 30 →
      (t.fold IntOp.addi (0#32) fun i => BitVec.setWidth 32 (g i)).toNat = ∑ i ∈ t, (g i).toNat ∧ ∑ i ∈ t, (g i).toNat ≤ t.card := by
    intro t
    induction t using Finset.induction_on with
    | empty => intro _; simp
    | insert a t ha ih =>
      intro h
      rw [Finset.card_insert_of_notMem ha] at h
      obtain ⟨h1, h2⟩ := ih (by omega)
      rw [Finset.fold_insert ha, Finset.sum_insert ha, Finset.card_insert_of_notMem ha]
      refine ⟨?_, by have := bit (g a); omega⟩
      show (BitVec.setWidth 32 (g a) + _).toNat = _
      rw [BitVec.toNat_add, h1, BitVec.toNat_setWidth]
      have := bit (g a)
      omega
  exact (key t ht).1

/-- A sequence is counted when one of its labels is not zero. -/
theorem outMask_apply (lab : IVec S1024 32) (b : Fin 32) (s : Fin 32) (h : lab (ix1 ⟨b.val * 32 + s.val, by omega⟩) ≠ 0#32) :
    outMask lab (ix1 b) = 1#1 := by
  have e : outMask lab (ix1 b) = IntOp.cmpi .sgt (Finset.univ.fold IntOp.addi (0#32)
      (fun s : Fin 32 => BitVec.setWidth 32 (IntOp.cmpi .ne (lab (ix1 ⟨b.val * 32 + s.val, by omega⟩)) 0#32))) 0#32 := by
    unfold outMask ignoreMask
    pointwise
  rw [e]
  have hc := count_toNat (Finset.univ : Finset (Fin 32)) (by simp)
    (fun s : Fin 32 => IntOp.cmpi .ne (lab (ix1 ⟨b.val * 32 + s.val, by omega⟩)) 0#32)
  have hbit : ∀ c : BitVec 1, c.toNat ≤ 1 := fun c => by have := c.isLt; omega
  have hle : ∑ s : Fin 32, (IntOp.cmpi .ne (lab (ix1 ⟨b.val * 32 + s.val, by omega⟩)) 0#32).toNat ≤ 32 :=
    (Finset.sum_le_sum fun s _ => hbit _).trans (by simp)
  have hge : 1 ≤ ∑ s : Fin 32, (IntOp.cmpi .ne (lab (ix1 ⟨b.val * 32 + s.val, by omega⟩)) 0#32).toNat := by
    refine le_trans ?_ (Finset.single_le_sum (f := fun s : Fin 32 => (IntOp.cmpi .ne (lab (ix1 ⟨b.val * 32 + s.val, by omega⟩)) 0#32).toNat)
      (fun _ _ => Nat.zero_le _) (Finset.mem_univ s))
    have : (lab (ix1 ⟨b.val * 32 + s.val, by omega⟩) == 0#32) = false := beq_eq_false_iff_ne.2 h
    simp [IntOp.cmpi, bne, this]
  generalize Finset.univ.fold IntOp.addi (0#32)
    (fun s : Fin 32 => BitVec.setWidth 32 (IntOp.cmpi .ne (lab (ix1 ⟨b.val * 32 + s.val, by omega⟩)) 0#32)) = w at hc
  have hw : (0#32 : BitVec 32).slt w = true := by
    have h1 : w.toInt = w.toNat := BitVec.toInt_eq_toNat_of_lt (by omega)
    have h0 : (0#32 : BitVec 32).toInt = 0 := by decide
    simp only [BitVec.slt, decide_eq_true_eq]
    omega
  simp [IntOp.cmpi, hw]

/-- The mean of masked sums at its one entry. -/
theorem meanOf_apply (lab : IVec S1024 32) (l : FVec Ideal S1024 .f32) (j : S_.Idx) :
    meanOf lab l j = Ideal.div (∑ b : Fin 32, (∑ s : Fin 32, (l (ix1 ⟨b.val * 32 + s.val, by omega⟩) : EReal)) * (((outMask lab (ix1 b)).toNat : ℝ) : EReal))
      (Ideal.ofBits .f32 0x42000000#32) := by
  unfold meanOf
  pointwise
  rfl

/-- The reference's result is the mean loss. -/
theorem refOut_eq (x : FVec Ideal S32x32x32768 .f32) (y : IVec S32x32 32) (f : Fin 32 → Fin 32 → V → ℝ) (l : Fin 32 → Fin 32 → V)
    (hx : ∀ b s v, x (ix3 b s v) = (f b s v : EReal)) (hy : ∀ b s, y (ix2 b s) = word (l b s)) (j : S_.Idx) :
    refOut x y j = (meanLoss f l : EReal) := by
  unfold refOut
  rw [meanOf_apply, bits_thirtytwo, Ideal.div_coe (by norm_num)]
  unfold meanLoss
  rw [EReal.coe_mul, coe_sum]
  refine congrArg (fun z : EReal => z * ((1 / 32 : ℝ) : EReal)) (Finset.sum_congr rfl fun b _ => ?_)
  have hseq : ∀ s : Fin 32, seqOf ⟨b.val * 32 + s.val, by omega⟩ = b := fun s => Fin.ext (by show (b.val * 32 + s.val) / 32 = b.val; omega)
  have hpos : ∀ s : Fin 32, posOf ⟨b.val * 32 + s.val, by omega⟩ = s := fun s => Fin.ext (by show (b.val * 32 + s.val) % 32 = s.val; omega)
  have hsum : (∑ s : Fin 32, (lossOf (labels y) (goldScores x y) (rowMax (scores x)) (rowArgmax (scores x)) (secondScores x)
      (ix1 ⟨b.val * 32 + s.val, by omega⟩) : EReal)) = ((∑ s : Fin 32, rowLoss (f b s) (l b s) : ℝ) : EReal) := by
    rw [coe_sum]
    refine Finset.sum_congr rfl fun s _ => ?_
    rw [loss_apply x y f l hx hy, hseq, hpos]
  rw [hsum]
  by_cases h : ∃ s : Fin 32, l b s ≠ 0
  · obtain ⟨s, hs⟩ := h
    rw [outMask_apply (labels y) b s (by rw [labels_apply, hseq, hpos, hy, Ne, word_eq_zero]; exact hs)]
    simp
  · have h0 : ∀ s, l b s = 0 := fun s => by
      by_contra hs
      exact h ⟨s, hs⟩
    simp only [h0, rowLoss_zero, Finset.sum_const_zero, EReal.coe_zero, zero_mul]

end Cert.ReferenceIdeal.Loss

end
-- ==== Proof.Loss.Drawn.lean ====
/-
  What the precondition says: every label is an index of a row, every score a real number.
-/
module

public import proofs.«01_k».proof.Defs
public import proofs.«01_k».proof.Proof.Gen.Pre_drawn
public import proofs.«01_k».proof.Proof.Loss.Row
public import Idealize.ShloMosaic.Lib.ReduceAll
public import Idealize.ShloMosaic.Lib.Pointwise.Index
public import Idealize.ShloMosaic.PureOps.Ideal.Laws

@[expose] public section

noncomputable section

namespace Cert.Pre_drawn.Loss

open Idealize.ShloMosaic Cert.Pre_drawn Cert.Loss

theorem and_one {a b : BitVec 1} (h : IntOp.andi a b = 1#1) : a = 1#1 ∧ b = 1#1 := by
  revert h
  revert a b
  decide

/-- A word that is signed at least zero and below 32768 is an index's. -/
theorem word_of_range (w : BitVec 32) (h0 : IntOp.cmpi .sge w 0#32 = 1#1) (h1 : IntOp.cmpi .slt w 32768#32 = 1#1) : ∃ v : V, w = word v := by
  have e0 : (0#32 : BitVec 32).toInt = 0 := by decide
  have e1 : (32768#32 : BitVec 32).toInt = 32768 := by decide
  have g0 : 0 ≤ w.toInt := by
    by_contra hc
    have : (0#32 : BitVec 32).sle w = false := by simp only [BitVec.sle, decide_eq_false_iff_not]; omega
    simp [IntOp.cmpi, this] at h0
  have g1 : w.toInt < 32768 := by
    by_contra hc
    have : w.slt 32768#32 = false := by simp only [BitVec.slt, decide_eq_false_iff_not]; omega
    simp [IntOp.cmpi, this] at h1
  refine ⟨⟨w.toInt.toNat, by omega⟩, BitVec.eq_of_toInt_eq ?_⟩
  rw [word_toInt]
  show w.toInt = (w.toInt.toNat : Int)
  omega

/-- The f32 pattern of +∞ is the greatest extended real. -/
theorem bits_top : Ideal.ofBits .f32 0x7F800000#32 = ⊤ := by simp [Ideal.ofBits, Ideal.ieee]

/-- An extended real whose absolute value is below +∞ is a real. -/
theorem real_of_abs (a : EReal) (h : Ideal.cmp .olt (max a (-a)) (Ideal.ofBits .f32 0x7F800000#32) = 1#1) : ∃ r : ℝ, a = (r : EReal) := by
  rw [bits_top] at h
  have hlt : max a (-a) < ⊤ := by
    by_contra hc
    simp [Ideal.cmp, hc] at h
  induction a using EReal.rec with
  | bot => simp at hlt
  | coe r => exact ⟨r, rfl⟩
  | top => simp at hlt

/-- The precondition, decoded. -/
theorem decode [Facts] (x : FVec Ideal S32x32x32768 .f32) (y : IVec S32x32 32) (h : fn (F := Ideal) x y = fun _ => 1#1) :
    (∃ f : Fin 32 → Fin 32 → V → ℝ, ∀ b s v, x (ix3 b s v) = (f b s v : EReal)) ∧ ∃ l : Fin 32 → Fin 32 → V, ∀ b s, y (ix2 b s) = word (l b s) := by
  have h0 := congrFun h (Shape.Idx.first Facts.h_S_)
  unfold fn at h0
  dsimp only at h0
  obtain ⟨h12, h3⟩ := and_one h0
  obtain ⟨h1, h2⟩ := and_one h12
  have ha := fun i => Host.reduce_andi_all _ _ _ _ _ h1 i
  have hb := fun i => Host.reduce_andi_all _ _ _ _ _ h2 i
  have hc := fun i => Host.reduce_andi_all _ _ _ _ _ h3 i
  have hx : ∀ b s v, ∃ r : ℝ, x (ix3 b s v) = (r : EReal) := fun b s v => real_of_abs _ (hc (ix3 b s v))
  have hy : ∀ b s, ∃ v : V, y (ix2 b s) = word v := fun b s => word_of_range _ (ha (ix2 b s)) (hb (ix2 b s))
  choose f hf using hx
  choose l hl using hy
  exact ⟨⟨f, hf⟩, ⟨l, hl⟩⟩

end Cert.Pre_drawn.Loss

end
-- ==== Proof.lean ====
/-
  The claim of `Defs.lean`, put together: the three frames, the named constant's rule, and the equality of the two
  idealized programs' results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_drawn
public import proofs.«01_k».proof.Proof.Loss.Run
public import proofs.«01_k».proof.Proof.Loss.KernelRun
public import proofs.«01_k».proof.Proof.Loss.KernelRow
public import proofs.«01_k».proof.Proof.Loss.RefRow
public import proofs.«01_k».proof.Proof.Loss.Drawn
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The reference leaves its arguments unchanged and every counter at zero. -/
theorem frame_reference : Cert.quiescent_ReferenceIdeal := fun m ρ _ =>
  θ_run_mono (Cert.ReferenceIdeal.Loss.run m ρ)
    (fun r h => ⟨fun c => (h c).2, Idealize.ShloMosaic.sem_eq_zero_of_no_sems (by decide) r.2⟩)

/-- On real scores and labels that are indices, the kernel's sum over its points and the reference's result are one scalar:
    the mean loss. -/
theorem results_eq (m : (ℓ : Loc Cert.KernelIdeal.nD Cert.KernelIdeal.τ Cert.KernelIdeal.sig) → Buf (Elt Ideal) ℓ)
    (hm : Cert.Pre_KernelIdeal_drawn m) (c : Dev Cert.KernelIdeal.nD) :
    Cert.ReferenceIdeal.Loss.refOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = shapeCast Cert.KernelIdeal.S_ (Cert.KernelIdeal.Loss.total m c) Cert.KernelIdeal.Facts₀.shapeCasts_S1x1_S_ := by
  obtain ⟨⟨f, hf⟩, ⟨l, hl⟩⟩ := Cert.Pre_drawn.Loss.decode _ _ (hm c)
  funext j
  rw [Cert.ReferenceIdeal.Loss.refOut_eq _ _ f l hf hl j, ← Cert.KernelIdeal.Loss.total_eq m c f l hf hl]
  unfold shapeCast
  refine congrArg (Cert.KernelIdeal.Loss.total m c) (funext fun a => ?_)
  match a with
  | ⟨0, _⟩ => exact Subsingleton.elim (α := Fin 1) _ _
  | ⟨1, _⟩ => exact Subsingleton.elim (α := Fin 1) _ _

/-- The idealized kernel and the idealized reference end with the same result. -/
theorem algebraic : Cert.algebraic_KernelIdeal_ReferenceIdeal_pre_drawn := fun m g m' g' hm ha =>
  ⟨fun c => shapeCast Cert.KernelIdeal.S_ (Cert.KernelIdeal.Loss.total m c) Cert.KernelIdeal.Facts₀.shapeCasts_S1x1_S_,
    Cert.KernelIdeal.Loss.run m g,
    θ_run_mono (Cert.ReferenceIdeal.Loss.run m' g') fun r h c =>
      ⟨(h c).1.trans (by rw [(ha c).1, (ha c).2]; exact results_eq m hm c), (h c).2⟩⟩

/-- The named constant's value is minus infinity, and the kernel before naming and after agree at the machine's words. -/
theorem preserves : Cert.preserves_Kernel_KernelIdeal :=
  IdealRules.named_const.statement Cert.KernelIdeal.κ "neg" .f32 0xFF61B1E6#32 ⊥ rfl

/-- Every claim. -/
theorem claim : Cert.Claim :=
  ⟨Cert.Kernel.Gen.facts, Cert.KernelIdeal.Gen.facts, Cert.ReferenceIdeal.Gen.facts, Cert.Pre_drawn.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, preserves, algebraic⟩

end Cert.Proof

end
